-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x10240 : Shape := ⟨3, ![6, 256, 10240]⟩
abbrev S2560x10240 : Shape := ⟨2, ![2560, 10240]⟩
abbrev S6x256x2560 : Shape := ⟨3, ![6, 256, 2560]⟩
abbrev S2560 : Shape := ⟨1, ![2560]⟩
abbrev S1536x10240 : Shape := ⟨2, ![1536, 10240]⟩
abbrev S1536x2560 : Shape := ⟨2, ![1536, 2560]⟩
abbrev S1x2560 : Shape := ⟨2, ![1, 2560]⟩
abbrev S1536x1024 : Shape := ⟨2, ![1536, 1024]⟩
abbrev S512x1024 : Shape := ⟨2, ![512, 1024]⟩
abbrev S2048x1024 : Shape := ⟨2, ![2048, 1024]⟩
abbrev S2x128x2560 : Shape := ⟨3, ![2, 128, 2560]⟩
abbrev S3x2 : Shape := ⟨2, ![3, 2]⟩
abbrev S6 : Shape := ⟨1, ![6]⟩
abbrev S_ : Shape := ⟨0, ![]⟩
abbrev S2x2 : Shape := ⟨2, ![2, 2]⟩
abbrev S1 : Shape := ⟨1, ![1]⟩
abbrev S256x1024 : Shape := ⟨2, ![256, 1024]⟩
abbrev S1x1 : Shape := ⟨2, ![1, 1]⟩
abbrev S256x512 : Shape := ⟨2, ![256, 512]⟩
abbrev S256x16x32 : Shape := ⟨3, ![256, 16, 32]⟩
abbrev S256x16 : Shape := ⟨2, ![256, 16]⟩
abbrev S256x16x1 : Shape := ⟨3, ![256, 16, 1]⟩
abbrev S512x512 : Shape := ⟨2, ![512, 512]⟩
abbrev S128x2560 : Shape := ⟨2, ![128, 2560]⟩
abbrev S1x128x2560 : Shape := ⟨3, ![1, 128, 2560]⟩
abbrev S16x2560 : Shape := ⟨2, ![16, 2560]⟩
abbrev S16 : Shape := ⟨1, ![16]⟩
abbrev S16x1 : Shape := ⟨2, ![16, 1]⟩
abbrev S1x16x2560 : Shape := ⟨3, ![1, 16, 2560]⟩

abbrev nBuf : Space → Nat
  | .hbm => 9
  | .vmem => 15
  | .smem => 0
  | _ => 0

abbrev bufTy : (tb : Table) → Fin (tcTables nBuf tb) → BufTy
  | .hbm, ⟨0, _⟩ => ⟨S6x256x10240, .bf16⟩
  | .hbm, ⟨1, _⟩ => ⟨S2560x10240, .bf16⟩
  | .hbm, ⟨2, _⟩ => ⟨S6x256x2560, .bf16⟩
  | .hbm, ⟨3, _⟩ => ⟨S2560, .f32⟩
  | .hbm, ⟨4, _⟩ => ⟨S1536x10240, .bf16⟩
  | .hbm, ⟨5, _⟩ => ⟨S1536x2560, .bf16⟩
  | .hbm, ⟨6, _⟩ => ⟨S1x2560, .f32⟩
  | .hbm, ⟨7, _⟩ => ⟨S1536x2560, .bf16⟩
  | .hbm, ⟨8, _⟩ => ⟨S1536x2560, .bf16⟩
  | .local _ .vmem, ⟨0, _⟩ => ⟨S1x2560, .f32⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1536x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S2048x1024, .bf16⟩
  | .local _ .vmem, ⟨10, _⟩ => ⟨S2048x1024, .bf16⟩
  | .local _ .vmem, ⟨11, _⟩ => ⟨S1536x2560, .f32⟩
  | .local _ .vmem, ⟨12, _⟩ => ⟨S1536x2560, .bf16⟩
  | .local _ .vmem, ⟨13, _⟩ => ⟨S2x128x2560, .bf16⟩
  | .local _ .vmem, ⟨14, _⟩ => ⟨S2x128x2560, .bf16⟩
  | _, _ => ⟨S6x256x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_sem0_0 : DmaSem sig := 0

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_8 : BitVec 32 := 0#32
  c0_i32_8
def k0_mult2 : BitVec 32 :=
  let c0_i32_13 : BitVec 32 := 0#32
  c0_i32_13
def k0_mult3 : BitVec 32 :=
  let c0_i32_17 : BitVec 32 := 0#32
  c0_i32_17
def k0_mult4 : BitVec 32 :=
  let c0_i32_21 : BitVec 32 := 0#32
  c0_i32_21
def k0_mult5 : BitVec 32 :=
  let c0_i32_24 : BitVec 32 := 0#32
  c0_i32_24
def k0_mult6 : BitVec 32 :=
  let c0_i32_27 : BitVec 32 := 0#32
  c0_i32_27
def k0_mult7 : BitVec 32 :=
  let c0_i32_30 : BitVec 32 := 0#32
  c0_i32_30
def k0_mult8 : BitVec 32 :=
  let c0_i32_34 : BitVec 32 := 0#32
  c0_i32_34
def k0_mult9 : BitVec 32 :=
  let c1024_i32_38 : BitVec 32 := 1024#32
  c1024_i32_38
def k0_mult10 : BitVec 32 :=
  let c1024_i32_42 : BitVec 32 := 1024#32
  c1024_i32_42
def k0_mult11 : BitVec 32 :=
  let c0_i32_47 : BitVec 32 := 0#32
  c0_i32_47
def k0_mult12 : BitVec 32 :=
  let c0_i32_77 : BitVec 32 := 0#32
  c0_i32_77
def k0_mult13 : BitVec 32 :=
  let c0_i32_107 : BitVec 32 := 0#32
  c0_i32_107
def k0_mult14 : BitVec 32 :=
  let c0_i32_138 : BitVec 32 := 0#32
  c0_i32_138
def k0_mult15 : BitVec 32 :=
  let c0_i32_168 : BitVec 32 := 0#32
  c0_i32_168
def k0_mult16 : BitVec 32 :=
  let c0_i32_198 : BitVec 32 := 0#32
  c0_i32_198
def k0_mult17 : BitVec 32 :=
  let c0_i32_228 : BitVec 32 := 0#32
  c0_i32_228
def k0_cond2 (i : grid0.Coords) : BitVec 1 :=
  let arg0 : BitVec 32 := BitVec.ofNat 32 (i 0).val
  let c9_i32 : BitVec 32 := 9#32
  let v3 : BitVec 1 := Scalar.cmpi .slt arg0 c9_i32
  let c2_i32 : BitVec 32 := 2#32
  let v4 : BitVec 32 := Scalar.remsi arg0 c2_i32
  let c0_i32_1 : BitVec 32 := 0#32
  let v5 : BitVec 1 := Scalar.cmpi .eq v4 c0_i32_1
  let v6 : BitVec 1 := Scalar.andi v3 v5
  let v7 : BitVec 32 := Scalar.extui v6
  let c0_i32_2 : BitVec 32 := 0#32
  let v8 : BitVec 1 := Scalar.cmpi .ne v7 c0_i32_2
  v8

def k0_mult18 (i : grid0.Coords) : BitVec 32 :=
  let arg0 : BitVec 32 := BitVec.ofNat 32 (i 0).val
  let c1024_i32 : BitVec 32 := 1024#32
  let v18 : BitVec 32 := Scalar.muli arg0 c1024_i32
  v18
def k0_off1 (i : grid0.Coords) : Fin 2 → Nat :=
  let c512_i32 : BitVec 32 := 512#32
  let arg0 : BitVec 32 := BitVec.ofNat 32 (i 0).val
  let c1024_i32 : BitVec 32 := 1024#32
  let v18 : BitVec 32 := Scalar.muli arg0 c1024_i32
  let v19 : BitVec 32 := v18
  ![512, v19.toNat]
def k0_mult19 (i : grid0.Coords) : BitVec 32 :=
  let arg0 : BitVec 32 := BitVec.ofNat 32 (i 0).val
  let c1_i32_10 : BitVec 32 := 1#32
  let v23 : BitVec 32 := Scalar.addi arg0 c1_i32_10
  let c1024_i32_11 : BitVec 32 := 1024#32
  let v24 : BitVec 32 := Scalar.muli v23 c1024_i32_11
  v24
def k0_off2 (i : grid0.Coords) : Fin 2 → Nat :=
  let c0_i32_14 : BitVec 32 := 0#32
  let arg0 : BitVec 32 := BitVec.ofNat 32 (i 0).val
  let c1_i32_10 : BitVec 32 := 1#32
  let v23 : BitVec 32 := Scalar.addi arg0 c1_i32_10
  let c1024_i32_11 : BitVec 32 := 1024#32
  let v24 : BitVec 32 := Scalar.muli v23 c1024_i32_11
  let v25 : BitVec 32 := v24
  ![0, v25.toNat]
def k0_mult20 (i : grid0.Coords) : BitVec 32 :=
  let arg0 : BitVec 32 := BitVec.ofNat 32 (i 0).val
  let c1_i32_15 : BitVec 32 := 1#32
  let v29 : BitVec 32 := Scalar.addi arg0 c1_i32_15
  let c1024_i32_16 : BitVec 32 := 1024#32
  let v30 : BitVec 32 := Scalar.muli v29 c1024_i32_16
  v30
def k0_off3 (i : grid0.Coords) : Fin 2 → Nat :=
  let c0_i32_19 : BitVec 32 := 0#32
  let arg0 : BitVec 32 := BitVec.ofNat 32 (i 0).val
  let c1_i32_15 : BitVec 32 := 1#32
  let v29 : BitVec 32 := Scalar.addi arg0 c1_i32_15
  let c1024_i32_16 : BitVec 32 := 1024#32
  let v30 : BitVec 32 := Scalar.muli v29 c1024_i32_16
  let v31 : BitVec 32 := v30
  ![0, v31.toNat]
def k0_mult21 (i : grid0.Coords) : BitVec 32 :=
  let arg0 : BitVec 32 := BitVec.ofNat 32 (i 0).val
  let c1_i32_20 : BitVec 32 := 1#32
  let v35 : BitVec 32 := Scalar.addi arg0 c1_i32_20
  let c1024_i32_21 : BitVec 32 := 1024#32
  let v36 : BitVec 32 := Scalar.muli v35 c1024_i32_21
  v36
def k0_off4 (i : grid0.Coords) : Fin 2 → Nat :=
  let c512_i32_24 : BitVec 32 := 512#32
  let arg0 : BitVec 32 := BitVec.ofNat 32 (i 0).val
  let c1_i32_20 : BitVec 32 := 1#32
  let v35 : BitVec 32 := Scalar.addi arg0 c1_i32_20
  let c1024_i32_21 : BitVec 32 := 1024#32
  let v36 : BitVec 32 := Scalar.muli v35 c1024_i32_21
  let v37 : BitVec 32 := v36
  ![512, v37.toNat]
def k0_cond3 (i : grid0.Coords) : BitVec 1 :=
  let arg0 : BitVec 32 := BitVec.ofNat 32 (i 0).val
  let c2_i32_25 : BitVec 32 := 2#32
  let v41 : BitVec 32 := Scalar.addi arg0 c2_i32_25
  let c10_i32 : BitVec 32 := 10#32
  let v42 : BitVec 1 := Scalar.cmpi .slt v41 c10_i32
  let v43 : BitVec 32 := Scalar.extui v42
  let c0_i32_26 : BitVec 32 := 0#32
  let v44 : BitVec 1 := Scalar.cmpi .ne v43 c0_i32_26
  v44

def k0_mult22 (i : grid0.Coords) : BitVec 32 :=
  let arg0 : BitVec 32 := BitVec.ofNat 32 (i 0).val
  let c2_i32_568 : BitVec 32 := 2#32
  let v1413 : BitVec 32 := Scalar.addi arg0 c2_i32_568
  let c1024_i32_569 : BitVec 32 := 1024#32
  let v1414 : BitVec 32 := Scalar.muli v1413 c1024_i32_569
  v1414
def k0_off5 (i : grid0.Coords) : Fin 2 → Nat :=
  let c0_i32_572 : BitVec 32 := 0#32
  let arg0 : BitVec 32 := BitVec.ofNat 32 (i 0).val
  let c2_i32_568 : BitVec 32 := 2#32
  let v1413 : BitVec 32 := Scalar.addi arg0 c2_i32_568
  let c1024_i32_569 : BitVec 32 := 1024#32
  let v1414 : BitVec 32 := Scalar.muli v1413 c1024_i32_569
  let v1415 : BitVec 32 := v1414
  ![0, v1415.toNat]
def k0_mult23 (i : grid0.Coords) : BitVec 32 :=
  let arg0 : BitVec 32 := BitVec.ofNat 32 (i 0).val
  let c2_i32_573 : BitVec 32 := 2#32
  let v1419 : BitVec 32 := Scalar.addi arg0 c2_i32_573
  let c1024_i32_574 : BitVec 32 := 1024#32
  let v1420 : BitVec 32 := Scalar.muli v1419 c1024_i32_574
  v1420
def k0_off6 (i : grid0.Coords) : Fin 2 → Nat :=
  let c0_i32_577 : BitVec 32 := 0#32
  let arg0 : BitVec 32 := BitVec.ofNat 32 (i 0).val
  let c2_i32_573 : BitVec 32 := 2#32
  let v1419 : BitVec 32 := Scalar.addi arg0 c2_i32_573
  let c1024_i32_574 : BitVec 32 := 1024#32
  let v1420 : BitVec 32 := Scalar.muli v1419 c1024_i32_574
  let v1421 : BitVec 32 := v1420
  ![0, v1421.toNat]
def k0_cond4 (i : grid0.Coords) : BitVec 1 :=
  let arg0 : BitVec 32 := BitVec.ofNat 32 (i 0).val
  let c9_i32_3 : BitVec 32 := 9#32
  let v9 : BitVec 1 := Scalar.cmpi .slt arg0 c9_i32_3
  let c2_i32_4 : BitVec 32 := 2#32
  let v10 : BitVec 32 := Scalar.remsi arg0 c2_i32_4
  let c1_i32 : BitVec 32 := 1#32
  let v11 : BitVec 1 := Scalar.cmpi .eq v10 c1_i32
  let v12 : BitVec 1 := Scalar.andi v9 v11
  let v13 : BitVec 32 := Scalar.extui v12
  let c0_i32_5 : BitVec 32 := 0#32
  let v14 : BitVec 1 := Scalar.cmpi .ne v13 c0_i32_5
  v14

def k0_mult24 (i : grid0.Coords) : BitVec 32 :=
  let arg0 : BitVec 32 := BitVec.ofNat 32 (i 0).val
  let c1024_i32 : BitVec 32 := 1024#32
  let v18 : BitVec 32 := Scalar.muli arg0 c1024_i32
  v18
def k0_off7 (i : grid0.Coords) : Fin 2 → Nat :=
  let c512_i32 : BitVec 32 := 512#32
  let arg0 : BitVec 32 := BitVec.ofNat 32 (i 0).val
  let c1024_i32 : BitVec 32 := 1024#32
  let v18 : BitVec 32 := Scalar.muli arg0 c1024_i32
  let v19 : BitVec 32 := v18
  ![512, v19.toNat]
def k0_mult25 (i : grid0.Coords) : BitVec 32 :=
  let arg0 : BitVec 32 := BitVec.ofNat 32 (i 0).val
  let c1_i32_10 : BitVec 32 := 1#32
  let v23 : BitVec 32 := Scalar.addi arg0 c1_i32_10
  let c1024_i32_11 : BitVec 32 := 1024#32
  let v24 : BitVec 32 := Scalar.muli v23 c1024_i32_11
  v24
def k0_off8 (i : grid0.Coords) : Fin 2 → Nat :=
  let c0_i32_14 : BitVec 32 := 0#32
  let arg0 : BitVec 32 := BitVec.ofNat 32 (i 0).val
  let c1_i32_10 : BitVec 32 := 1#32
  let v23 : BitVec 32 := Scalar.addi arg0 c1_i32_10
  let c1024_i32_11 : BitVec 32 := 1024#32
  let v24 : BitVec 32 := Scalar.muli v23 c1024_i32_11
  let v25 : BitVec 32 := v24
  ![0, v25.toNat]
def k0_mult26 (i : grid0.Coords) : BitVec 32 :=
  let arg0 : BitVec 32 := BitVec.ofNat 32 (i 0).val
  let c1_i32_15 : BitVec 32 := 1#32
  let v29 : BitVec 32 := Scalar.addi arg0 c1_i32_15
  let c1024_i32_16 : BitVec 32 := 1024#32
  let v30 : BitVec 32 := Scalar.muli v29 c1024_i32_16
  v30
def k0_off9 (i : grid0.Coords) : Fin 2 → Nat :=
  let c0_i32_19 : BitVec 32 := 0#32
  let arg0 : BitVec 32 := BitVec.ofNat 32 (i 0).val
  let c1_i32_15 : BitVec 32 := 1#32
  let v29 : BitVec 32 := Scalar.addi arg0 c1_i32_15
  let c1024_i32_16 : BitVec 32 := 1024#32
  let v30 : BitVec 32 := Scalar.muli v29 c1024_i32_16
  let v31 : BitVec 32 := v30
  ![0, v31.toNat]
def k0_mult27 (i : grid0.Coords) : BitVec 32 :=
  let arg0 : BitVec 32 := BitVec.ofNat 32 (i 0).val
  let c1_i32_20 : BitVec 32 := 1#32
  let v35 : BitVec 32 := Scalar.addi arg0 c1_i32_20
  let c1024_i32_21 : BitVec 32 := 1024#32
  let v36 : BitVec 32 := Scalar.muli v35 c1024_i32_21
  v36
def k0_off10 (i : grid0.Coords) : Fin 2 → Nat :=
  let c512_i32_24 : BitVec 32 := 512#32
  let arg0 : BitVec 32 := BitVec.ofNat 32 (i 0).val
  let c1_i32_20 : BitVec 32 := 1#32
  let v35 : BitVec 32 := Scalar.addi arg0 c1_i32_20
  let c1024_i32_21 : BitVec 32 := 1024#32
  let v36 : BitVec 32 := Scalar.muli v35 c1024_i32_21
  let v37 : BitVec 32 := v36
  ![512, v37.toNat]
def k0_cond5 (i : grid0.Coords) : BitVec 1 :=
  let arg0 : BitVec 32 := BitVec.ofNat 32 (i 0).val
  let c2_i32_25 : BitVec 32 := 2#32
  let v41 : BitVec 32 := Scalar.addi arg0 c2_i32_25
  let c10_i32 : BitVec 32 := 10#32
  let v42 : BitVec 1 := Scalar.cmpi .slt v41 c10_i32
  let v43 : BitVec 32 := Scalar.extui v42
  let c0_i32_26 : BitVec 32 := 0#32
  let v44 : BitVec 1 := Scalar.cmpi .ne v43 c0_i32_26
  v44

def k0_mult28 (i : grid0.Coords) : BitVec 32 :=
  let arg0 : BitVec 32 := BitVec.ofNat 32 (i 0).val
  let c2_i32_568 : BitVec 32 := 2#32
  let v1413 : BitVec 32 := Scalar.addi arg0 c2_i32_568
  let c1024_i32_569 : BitVec 32 := 1024#32
  let v1414 : BitVec 32 := Scalar.muli v1413 c1024_i32_569
  v1414
def k0_off11 (i : grid0.Coords) : Fin 2 → Nat :=
  let c0_i32_572 : BitVec 32 := 0#32
  let arg0 : BitVec 32 := BitVec.ofNat 32 (i 0).val
  let c2_i32_568 : BitVec 32 := 2#32
  let v1413 : BitVec 32 := Scalar.addi arg0 c2_i32_568
  let c1024_i32_569 : BitVec 32 := 1024#32
  let v1414 : BitVec 32 := Scalar.muli v1413 c1024_i32_569
  let v1415 : BitVec 32 := v1414
  ![0, v1415.toNat]
def k0_mult29 (i : grid0.Coords) : BitVec 32 :=
  let arg0 : BitVec 32 := BitVec.ofNat 32 (i 0).val
  let c2_i32_573 : BitVec 32 := 2#32
  let v1419 : BitVec 32 := Scalar.addi arg0 c2_i32_573
  let c1024_i32_574 : BitVec 32 := 1024#32
  let v1420 : BitVec 32 := Scalar.muli v1419 c1024_i32_574
  v1420
def k0_off12 (i : grid0.Coords) : Fin 2 → Nat :=
  let c0_i32_577 : BitVec 32 := 0#32
  let arg0 : BitVec 32 := BitVec.ofNat 32 (i 0).val
  let c2_i32_573 : BitVec 32 := 2#32
  let v1419 : BitVec 32 := Scalar.addi arg0 c2_i32_573
  let c1024_i32_574 : BitVec 32 := 1024#32
  let v1420 : BitVec 32 := Scalar.muli v1419 c1024_i32_574
  let v1421 : BitVec 32 := v1420
  ![0, v1421.toNat]
def k0_cond6 (i : grid0.Coords) : BitVec 1 :=
  let arg0 : BitVec 32 := BitVec.ofNat 32 (i 0).val
  let c9_i32_6 : BitVec 32 := 9#32
  let v15 : BitVec 1 := Scalar.cmpi .eq arg0 c9_i32_6
  let v16 : BitVec 32 := Scalar.extui v15
  let c0_i32_7 : BitVec 32 := 0#32
  let v17 : BitVec 1 := Scalar.cmpi .ne v16 c0_i32_7
  v17

def k0_mult30 (i : grid0.Coords) : BitVec 32 :=
  let arg0 : BitVec 32 := BitVec.ofNat 32 (i 0).val
  let c1024_i32 : BitVec 32 := 1024#32
  let v18 : BitVec 32 := Scalar.muli arg0 c1024_i32
  v18
def k0_off13 (i : grid0.Coords) : Fin 2 → Nat :=
  let c512_i32 : BitVec 32 := 512#32
  let arg0 : BitVec 32 := BitVec.ofNat 32 (i 0).val
  let c1024_i32 : BitVec 32 := 1024#32
  let v18 : BitVec 32 := Scalar.muli arg0 c1024_i32
  let v19 : BitVec 32 := v18
  ![512, v19.toNat]
@[reducible] def k0_t1_loop : Scf.Loop 32 :=
  let c0_i32_343 : BitVec 32 := 0#32
  let c12_i32 : BitVec 32 := 12#32
  let v767 : BitVec 32 := Scalar.addi c0_i32_343 c12_i32
  let c1_i32_344 : BitVec 32 := 1#32
  ⟨c0_i32_343, v767, c1_i32_344⟩
def k0_cond7 (k0_t1 : Fin k0_t1_loop.trips) : BitVec 1 :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_373 : BitVec 32 := 2#32
  let v793 : BitVec 1 := Scalar.cmpi .sge v791 c2_i32_373
  let v794 : BitVec 32 := Scalar.extui v793
  let c0_i32_374 : BitVec 32 := 0#32
  let v795 : BitVec 1 := Scalar.cmpi .ne v794 c0_i32_374
  v795

def k0_mult31 (k0_t1 : Fin k0_t1_loop.trips) : BitVec 32 :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_386 : BitVec 32 := 2#32
  let v809 : BitVec 32 := Scalar.subi v791 c2_i32_386
  let c128_i32_387 : BitVec 32 := 128#32
  let v810 : BitVec 32 := Scalar.muli v809 c128_i32_387
  v810
def k0_off14 (k0_t1 : Fin k0_t1_loop.trips) : Fin 2 → Nat :=
  let c0_i32_388 : BitVec 32 := 0#32
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  ![0, v792.toNat]
def k0_off15 (k0_t1 : Fin k0_t1_loop.trips) : Fin 2 → Nat :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_386 : BitVec 32 := 2#32
  let v809 : BitVec 32 := Scalar.subi v791 c2_i32_386
  let c128_i32_387 : BitVec 32 := 128#32
  let v810 : BitVec 32 := Scalar.muli v809 c128_i32_387
  let v811 : BitVec 32 := v810
  let c0_i32_389 : BitVec 32 := 0#32
  ![v811.toNat, 0]
def k0_off16 (k0_t1 : Fin k0_t1_loop.trips) : Fin 3 → Nat :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  let c0_i32_390 : BitVec 32 := 0#32
  let c0_i32_391 : BitVec 32 := 0#32
  ![v792.toNat, 0, 0]
def k0_off17 (k0_t1 : Fin k0_t1_loop.trips) : Fin 2 → Nat :=
  let c1_i32_392 : BitVec 32 := 1#32
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  ![1, v792.toNat]
@[reducible] def k0_t2_loop : Scf.Loop 32 :=
  let c0_i32_375 : BitVec 32 := 0#32
  let c8_i32 : BitVec 32 := 8#32
  let v796 : BitVec 32 := Scalar.addi c0_i32_375 c8_i32
  let c1_i32_376 : BitVec 32 := 1#32
  ⟨c0_i32_375, v796, c1_i32_376⟩
def k0_mult32 (k0_t1 : Fin k0_t1_loop.trips) (k0_t2 : Fin k0_t2_loop.trips) : BitVec 32 :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c128_i32_388 : BitVec 32 := 128#32
  let v811 : BitVec 32 := Scalar.muli v791 c128_i32_388
  let c16_i32 : BitVec 32 := 16#32
  let c0_i32_387 : BitVec 32 := 0#32
  let c0_i32_375 : BitVec 32 := 0#32
  let c1_i32_376 : BitVec 32 := 1#32
  let arg26 : BitVec 32 := Scf.iv c0_i32_375 c1_i32_376 k0_t2
  let c1_i32_386 : BitVec 32 := 1#32
  let v809 : BitVec 32 := Scalar.muli arg26 c1_i32_386
  let v810 : BitVec 32 := Scalar.addi c0_i32_387 v809
  let v812 : BitVec 32 := Scalar.muli c16_i32 v810
  let v813 : BitVec 32 := Scalar.addi v811 v812
  v813
def k0_mult33 (k0_t2 : Fin k0_t2_loop.trips) : BitVec 32 :=
  let c16_i32_389 : BitVec 32 := 16#32
  let c0_i32_387 : BitVec 32 := 0#32
  let c0_i32_375 : BitVec 32 := 0#32
  let c1_i32_376 : BitVec 32 := 1#32
  let arg26 : BitVec 32 := Scf.iv c0_i32_375 c1_i32_376 k0_t2
  let c1_i32_386 : BitVec 32 := 1#32
  let v809 : BitVec 32 := Scalar.muli arg26 c1_i32_386
  let v810 : BitVec 32 := Scalar.addi c0_i32_387 v809
  let v815 : BitVec 32 := Scalar.muli c16_i32_389 v810
  v815
def k0_off18 (k0_t1 : Fin k0_t1_loop.trips) (k0_t2 : Fin k0_t2_loop.trips) : Fin 2 → Nat :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c128_i32_388 : BitVec 32 := 128#32
  let v811 : BitVec 32 := Scalar.muli v791 c128_i32_388
  let c16_i32 : BitVec 32 := 16#32
  let c0_i32_387 : BitVec 32 := 0#32
  let c0_i32_375 : BitVec 32 := 0#32
  let c1_i32_376 : BitVec 32 := 1#32
  let arg26 : BitVec 32 := Scf.iv c0_i32_375 c1_i32_376 k0_t2
  let c1_i32_386 : BitVec 32 := 1#32
  let v809 : BitVec 32 := Scalar.muli arg26 c1_i32_386
  let v810 : BitVec 32 := Scalar.addi c0_i32_387 v809
  let v812 : BitVec 32 := Scalar.muli c16_i32 v810
  let v813 : BitVec 32 := Scalar.addi v811 v812
  let v814 : BitVec 32 := v813
  let v817 : Index := Scalar.indexCast v814
  let c0_390 : Index := 0#32
  ![v817.toNat, 0]
def k0_off19 (k0_t1 : Fin k0_t1_loop.trips) (k0_t2 : Fin k0_t2_loop.trips) : Fin 3 → Nat :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  let v847 : Index := Scalar.indexCast v792
  let c16_i32_389 : BitVec 32 := 16#32
  let c0_i32_387 : BitVec 32 := 0#32
  let c0_i32_375 : BitVec 32 := 0#32
  let c1_i32_376 : BitVec 32 := 1#32
  let arg26 : BitVec 32 := Scf.iv c0_i32_375 c1_i32_376 k0_t2
  let c1_i32_386 : BitVec 32 := 1#32
  let v809 : BitVec 32 := Scalar.muli arg26 c1_i32_386
  let v810 : BitVec 32 := Scalar.addi c0_i32_387 v809
  let v815 : BitVec 32 := Scalar.muli c16_i32_389 v810
  let v816 : BitVec 32 := v815
  let v848 : Index := Scalar.indexCast v816
  let c0_399 : Index := 0#32
  ![v847.toNat, v848.toNat, 0]
def k0_mult34 (k0_t1 : Fin k0_t1_loop.trips) : BitVec 32 :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c128_i32 : BitVec 32 := 128#32
  let v797 : BitVec 32 := Scalar.muli v791 c128_i32
  v797
def k0_off20 (k0_t1 : Fin k0_t1_loop.trips) : Fin 2 → Nat :=
  let c0_i32_378 : BitVec 32 := 0#32
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  ![0, v792.toNat]
def k0_off21 (k0_t1 : Fin k0_t1_loop.trips) : Fin 2 → Nat :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c128_i32 : BitVec 32 := 128#32
  let v797 : BitVec 32 := Scalar.muli v791 c128_i32
  let v798 : BitVec 32 := v797
  let c0_i32_379 : BitVec 32 := 0#32
  ![v798.toNat, 0]
def k0_off22 (k0_t1 : Fin k0_t1_loop.trips) : Fin 3 → Nat :=
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  let c0_i32_380 : BitVec 32 := 0#32
  let c0_i32_381 : BitVec 32 := 0#32
  ![v792.toNat, 0, 0]
def k0_off23 (k0_t1 : Fin k0_t1_loop.trips) : Fin 2 → Nat :=
  let c1_i32_382 : BitVec 32 := 1#32
  let c0_i32_371 : BitVec 32 := 0#32
  let c0_i32_343 : BitVec 32 := 0#32
  let c1_i32_344 : BitVec 32 := 1#32
  let arg25 : BitVec 32 := Scf.iv c0_i32_343 c1_i32_344 k0_t1
  let c1_i32_370 : BitVec 32 := 1#32
  let v790 : BitVec 32 := Scalar.muli arg25 c1_i32_370
  let v791 : BitVec 32 := Scalar.addi c0_i32_371 v790
  let c2_i32_372 : BitVec 32 := 2#32
  let v792 : BitVec 32 := Scalar.remsi v791 c2_i32_372
  ![1, v792.toNat]
def k0_mult35 : BitVec 32 :=
  let c1280_i32 : BitVec 32 := 1280#32
  c1280_i32
def k0_mult36 : BitVec 32 :=
  let c1408_i32 : BitVec 32 := 1408#32
  c1408_i32
def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S6x256x10240 : Shape := ⟨3, ![6, 256, 10240]⟩
abbrev S2560x10240 : Shape := ⟨2, ![2560, 10240]⟩
abbrev S6x256x2560 : Shape := ⟨3, ![6, 256, 2560]⟩
abbrev S2560 : Shape := ⟨1, ![2560]⟩
abbrev S6x256x320x32 : Shape := ⟨4, ![6, 256, 320, 32]⟩
abbrev S_ : Shape := ⟨0, ![]⟩
abbrev S6x256x320 : Shape := ⟨3, ![6, 256, 320]⟩
abbrev S6x256x320x1 : Shape := ⟨4, ![6, 256, 320, 1]⟩
abbrev S2560x320x32 : Shape := ⟨3, ![2560, 320, 32]⟩
abbrev S2560x320 : Shape := ⟨2, ![2560, 320]⟩
abbrev S2560x320x1 : Shape := ⟨3, ![2560, 320, 1]⟩
abbrev S6x256 : Shape := ⟨2, ![6, 256]⟩
abbrev S6x256x1 : Shape := ⟨3, ![6, 256, 1]⟩
abbrev S1x1x2560 : Shape := ⟨3, ![1, 1, 2560]⟩
abbrev S1536x2560 : Shape := ⟨2, ![1536, 2560]⟩

abbrev nBuf : Space → Nat
  | .hbm => 136
  | .vmem => 0
  | .smem => 0
  | _ => 0

abbrev hbmTy0_0 (i : Nat) : BufTy := match i % 128 with
  | 0 => ⟨S6x256x10240, .bf16⟩
  | 1 => ⟨S2560x10240, .bf16⟩
  | 2 => ⟨S6x256x2560, .bf16⟩
  | 3 => ⟨S2560, .f32⟩
  | 4 => ⟨S6x256x10240, .f32⟩
  | 5 => ⟨S6x256x320x32, .f32⟩
  | 6 => ⟨S6x256x320x32, .f32⟩
  | 7 => ⟨S_, .f32⟩
  | 8 => ⟨S6x256x320, .f32⟩
  | 9 => ⟨S_, .f32⟩
  | 10 => ⟨S6x256x320, .f32⟩
  | 11 => ⟨S6x256x320, .f32⟩
  | 12 => ⟨S6x256x320, .f32⟩
  | 13 => ⟨S_, .f32⟩
  | 14 => ⟨S_, .f32⟩
  | 15 => ⟨S_, .f32⟩
  | 16 => ⟨S6x256x320, .f32⟩
  | 17 => ⟨S6x256x320, .f32⟩
  | 18 => ⟨S6x256x320, .f32⟩
  | 19 => ⟨S_, .f32⟩
  | 20 => ⟨S6x256x320, .f32⟩
  | 21 => ⟨S6x256x320, .f32⟩
  | 22 => ⟨S_, .f32⟩
  | 23 => ⟨S6x256x320, .f32⟩
  | 24 => ⟨S6x256x320, .i1⟩
  | 25 => ⟨S_, .f32⟩
  | 26 => ⟨S_, .f32⟩
  | 27 => ⟨S6x256x320, .f32⟩
  | 28 => ⟨S6x256x320, .f32⟩
  | 29 => ⟨S6x256x320, .f32⟩
  | 30 => ⟨S_, .f32⟩
  | 31 => ⟨S6x256x320, .f32⟩
  | 32 => ⟨S6x256x320, .f32⟩
  | 33 => ⟨S6x256x320x1, .f32⟩
  | 34 => ⟨S6x256x320x32, .f32⟩
  | 35 => ⟨S6x256x320x32, .f32⟩
  | 36 => ⟨S_, .f32⟩
  | 37 => ⟨S_, .f32⟩
  | 38 => ⟨S_, .f32⟩
  | 39 => ⟨S6x256x320x32, .f32⟩
  | 40 => ⟨S6x256x320x32, .f32⟩
  | 41 => ⟨S_, .f32⟩
  | 42 => ⟨S6x256x320x32, .f32⟩
  | 43 => ⟨S6x256x320x32, .f32⟩
  | 44 => ⟨S6x256x320x32, .bf16⟩
  | 45 => ⟨S_, .f32⟩
  | 46 => ⟨S6x256x320, .f32⟩
  | 47 => ⟨S6x256x320, .f32⟩
  | 48 => ⟨S6x256x320, .bf16⟩
  | 49 => ⟨S6x256x320x1, .bf16⟩
  | 50 => ⟨S6x256x320x32, .bf16⟩
  | 51 => ⟨S6x256x320x32, .bf16⟩
  | 52 => ⟨S6x256x10240, .bf16⟩
  | 53 => ⟨S2560x10240, .f32⟩
  | 54 => ⟨S2560x320x32, .f32⟩
  | 55 => ⟨S2560x320x32, .f32⟩
  | 56 => ⟨S_, .f32⟩
  | 57 => ⟨S2560x320, .f32⟩
  | 58 => ⟨S_, .f32⟩
  | 59 => ⟨S2560x320, .f32⟩
  | 60 => ⟨S2560x320, .f32⟩
  | 61 => ⟨S2560x320, .f32⟩
  | 62 => ⟨S_, .f32⟩
  | 63 => ⟨S_, .f32⟩
  | 64 => ⟨S_, .f32⟩
  | 65 => ⟨S2560x320, .f32⟩
  | 66 => ⟨S2560x320, .f32⟩
  | 67 => ⟨S2560x320, .f32⟩
  | 68 => ⟨S_, .f32⟩
  | 69 => ⟨S2560x320, .f32⟩
  | 70 => ⟨S2560x320, .f32⟩
  | 71 => ⟨S_, .f32⟩
  | 72 => ⟨S2560x320, .f32⟩
  | 73 => ⟨S2560x320, .i1⟩
  | 74 => ⟨S_, .f32⟩
  | 75 => ⟨S_, .f32⟩
  | 76 => ⟨S2560x320, .f32⟩
  | 77 => ⟨S2560x320, .f32⟩
  | 78 => ⟨S2560x320, .f32⟩
  | 79 => ⟨S_, .f32⟩
  | 80 => ⟨S2560x320, .f32⟩
  | 81 => ⟨S2560x320, .f32⟩
  | 82 => ⟨S2560x320x1, .f32⟩
  | 83 => ⟨S2560x320x32, .f32⟩
  | 84 => ⟨S2560x320x32, .f32⟩
  | 85 => ⟨S_, .f32⟩
  | 86 => ⟨S_, .f32⟩
  | 87 => ⟨S_, .f32⟩
  | 88 => ⟨S2560x320x32, .f32⟩
  | 89 => ⟨S2560x320x32, .f32⟩
  | 90 => ⟨S_, .f32⟩
  | 91 => ⟨S2560x320x32, .f32⟩
  | 92 => ⟨S2560x320x32, .f32⟩
  | 93 => ⟨S2560x320x32, .bf16⟩
  | 94 => ⟨S_, .f32⟩
  | 95 => ⟨S2560x320, .f32⟩
  | 96 => ⟨S2560x320, .f32⟩
  | 97 => ⟨S2560x320, .bf16⟩
  | 98 => ⟨S2560x320x1, .bf16⟩
  | 99 => ⟨S2560x320x32, .bf16⟩
  | 100 => ⟨S2560x320x32, .bf16⟩
  | 101 => ⟨S2560x10240, .bf16⟩
  | 102 => ⟨S6x256x2560, .f32⟩
  | 103 => ⟨S6x256x2560, .f32⟩
  | 104 => ⟨S6x256x2560, .f32⟩
  | 105 => ⟨S_, .f32⟩
  | 106 => ⟨S6x256, .f32⟩
  | 107 => ⟨S_, .f32⟩
  | 108 => ⟨S6x256, .f32⟩
  | 109 => ⟨S6x256, .f32⟩
  | 110 => ⟨S_, .f32⟩
  | 111 => ⟨S6x256, .f32⟩
  | 112 => ⟨S6x256, .f32⟩
  | 113 => ⟨S6x256, .f32⟩
  | 114 => ⟨S6x256x1, .f32⟩
  | 115 => ⟨S6x256x2560, .f32⟩
  | 116 => ⟨S6x256x2560, .f32⟩
  | 117 => ⟨S1x1x2560, .f32⟩
  | 118 => ⟨S6x256x2560, .f32⟩
  | 119 => ⟨S6x256x2560, .f32⟩
  | 120 => ⟨S6x256x2560, .f32⟩
  | 121 => ⟨S_, .f32⟩
  | 122 => ⟨S6x256, .f32⟩
  | 123 => ⟨S6x256x1, .f32⟩
  | 124 => ⟨S_, .f32⟩
  | 125 => ⟨S6x256x1, .f32⟩
  | 126 => ⟨S6x256x1, .f32⟩
  | 127 => ⟨S6x256x2560, .f32⟩
  | _ => ⟨S6x256x10240, .bf16⟩

abbrev hbmTy0_1 (i : Nat) : BufTy := match i % 128 with
  | 0 => ⟨S6x256x2560, .f32⟩
  | 1 => ⟨S6x256x2560, .f32⟩
  | 2 => ⟨S6x256x2560, .f32⟩
  | 3 => ⟨S6x256x2560, .f32⟩
  | 4 => ⟨S6x256x2560, .bf16⟩
  | 5 => ⟨S1536x2560, .bf16⟩
  | 6 => ⟨S6x256x2560, .bf16⟩
  | 7 => ⟨S1536x2560, .bf16⟩
  | _ => ⟨S6x256x10240, .bf16⟩

abbrev hbmTy (i : Nat) : BufTy := match i / 128 with
  | 0 => hbmTy0_0 i
  | 1 => hbmTy0_1 i
  | _ => ⟨S6x256x10240, .bf16⟩

abbrev bufTy : (tb : Table) → Fin (tcTables nBuf tb) → BufTy
  | .hbm, ⟨i, _⟩ => hbmTy i
  | _, _ => ⟨S6x256x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_cst_14 : Ref sig .tc := ⟨.hbm, 74, rfl⟩
abbrev main_call2_v0 : Ref sig .tc := ⟨.hbm, 75, rfl⟩
abbrev main_call2_v1 : Ref sig .tc := ⟨.hbm, 76, rfl⟩
abbrev main_v48 : Ref sig .tc := ⟨.hbm, 77, rfl⟩
abbrev main_v49 : Ref sig .tc := ⟨.hbm, 78, rfl⟩
abbrev main_cst_15 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_cst_17 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v55 : Ref sig .tc := ⟨.hbm, 92, rfl⟩
abbrev main_v56 : Ref sig .tc := ⟨.hbm, 93, rfl⟩
abbrev main_cst_18 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_cst_20 : Ref sig .tc := ⟨.hbm, 107, rfl⟩
abbrev main_v68 : Ref sig .tc := ⟨.hbm, 108, rfl⟩
abbrev main_v69 : Ref sig .tc := ⟨.hbm, 109, rfl⟩
abbrev main_cst_21 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_22 : Ref sig .tc := ⟨.hbm, 121, rfl⟩
abbrev main_v80 : Ref sig .tc := ⟨.hbm, 122, rfl⟩
abbrev main_v81 : Ref sig .tc := ⟨.hbm, 123, rfl⟩
abbrev main_cst_23 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩

abbrev nD : Nat := 1
abbrev τ : Topo := Topo.v7x

variable {F : FTy → Type} [FloatOps F]
-- ==== Proof.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameBody
public import Idealize.ShloMosaic.Lib.Pipeline.FrameValue
public import Idealize.ShloMosaic.Lib.Tactic
public import Idealize.ShloMosaic.Lib.Pointwise.Tactic
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The blocks the body's transfers read -/

/-- The gradient, flattened to rows. -/
abbrev dyM : Memref sig .tc .hbm S1536x10240 .bf16 := Memref.whole main_v0
/-- The weight. -/
abbrev wM : Memref sig .tc .hbm S2560x10240 .bf16 := Memref.whole main_arg1
/-- The normalised rows, flattened. -/
abbrev hM : Memref sig .tc .hbm S1536x2560 .bf16 := Memref.whole main_v1

theorem dyB_inb (k : ℕ) : ∀ a, (![0, 1024 * (k % 10)] : Fin 2 → ℕ) a + S1536x1024.size a ≤ S1536x10240.size a := by
  intro a; have := Nat.mod_lt k (show 0 < 10 by decide)
  match a with
  | 0 => show _ + _ ≤ _; first | exact (by decide : (0 : ℕ) + 1536 ≤ 1536) | exact (by decide : (0 : ℕ) + 512 ≤ 2560) | exact (by decide : (512 : ℕ) + 2048 ≤ 2560)
  | 1 => show 1024 * (k % 10) + 1024 ≤ 10240; omega
theorem wfB_inb (k : ℕ) : ∀ a, (![0, 1024 * (k % 10)] : Fin 2 → ℕ) a + S512x1024.size a ≤ S2560x10240.size a := by
  intro a; have := Nat.mod_lt k (show 0 < 10 by decide)
  match a with
  | 0 => show _ + _ ≤ _; first | exact (by decide : (0 : ℕ) + 1536 ≤ 1536) | exact (by decide : (0 : ℕ) + 512 ≤ 2560) | exact (by decide : (512 : ℕ) + 2048 ≤ 2560)
  | 1 => show 1024 * (k % 10) + 1024 ≤ 10240; omega
theorem wrB_inb (k : ℕ) : ∀ a, (![512, 1024 * (k % 10)] : Fin 2 → ℕ) a + S2048x1024.size a ≤ S2560x10240.size a := by
  intro a; have := Nat.mod_lt k (show 0 < 10 by decide)
  match a with
  | 0 => show _ + _ ≤ _; first | exact (by decide : (0 : ℕ) + 1536 ≤ 1536) | exact (by decide : (0 : ℕ) + 512 ≤ 2560) | exact (by decide : (512 : ℕ) + 2048 ≤ 2560)
  | 1 => show 1024 * (k % 10) + 1024 ≤ 10240; omega

/-- The gradient's columns `1024 k ..< 1024 (k + 1)`. -/
def dyB (k : ℕ) : Memref sig .tc .hbm S1536x1024 .bf16 :=
  dyM.slice (Rect.unit (s := S1536x10240) ![0, 1024 * (k % 10)] S1536x1024.size (dyB_inb k)) (fun _ => rfl)
/-- The weight's first 512 rows at the columns of block `k`. -/
def wfB (k : ℕ) : Memref sig .tc .hbm S512x1024 .bf16 :=
  wM.slice (Rect.unit (s := S2560x10240) ![0, 1024 * (k % 10)] S512x1024.size (wfB_inb k)) (fun _ => rfl)
/-- The weight's other 2048 rows at the columns of block `k`. -/
def wrB (k : ℕ) : Memref sig .tc .hbm S2048x1024 .bf16 :=
  wM.slice (Rect.unit (s := S2560x10240) ![512, 1024 * (k % 10)] S2048x1024.size (wrB_inb k)) (fun _ => rfl)

theorem dyB_congr {off : Fin 2 → ℕ} {k : ℕ} (e : off = ![0, 1024 * (k % 10)]) (hh hs) :
    dyM.slice (Rect.unit (s := S1536x10240) off S1536x1024.size hh) hs = dyB k :=
  Memref.slice_unit_congr _ e _ _ _ (fun _ => rfl)
theorem wfB_congr {off : Fin 2 → ℕ} {k : ℕ} (e : off = ![0, 1024 * (k % 10)]) (hh hs) :
    wM.slice (Rect.unit (s := S2560x10240) off S512x1024.size hh) hs = wfB k :=
  Memref.slice_unit_congr _ e _ _ _ (fun _ => rfl)
theorem wrB_congr {off : Fin 2 → ℕ} {k : ℕ} (e : off = ![512, 1024 * (k % 10)]) (hh hs) :
    wM.slice (Rect.unit (s := S2560x10240) off S2048x1024.size hh) hs = wrB k :=
  Memref.slice_unit_congr _ e _ _ _ (fun _ => rfl)

/-! ## The offsets at a grid point -/

/-- The grid coordinate as a number: the block of columns the point works on. -/
@[irreducible] def blk (i : grid0.Coords) : ℕ := (i 0).val
theorem blk_eq (i : grid0.Coords) : blk i = (i 0).val := by unfold blk; rfl
theorem i_lt (i : grid0.Coords) : (i 0).val < 10 := (i 0).isLt

/-- A word computed from the grid coordinate, evaluated: enough to compare it at the ten coordinates. -/
theorem at_coord {α : Type} (f g : ℕ → α) (h : ∀ k : Fin 10, f k.val = g k.val) (i : grid0.Coords) : f (i 0).val = g (i 0).val :=
  h ⟨(i 0).val, i_lt i⟩

theorem off1_eq (i : grid0.Coords) : k0_off1 i = ![512, 1024 * (blk i % 10)] :=
  (blk_eq i) ▸ at_coord (fun n => (![512, (Scalar.muli (BitVec.ofNat 32 n) 1024#32).toNat] : Fin 2 → ℕ)) (fun n => ![512, 1024 * (n % 10)]) (by decide) i
theorem off2_eq (i : grid0.Coords) (h : blk i + 1 < 10) : k0_off2 i = ![0, 1024 * ((blk i + 1) % 10)] := by
  rw [Nat.mod_eq_of_lt h]
  rw [blk_eq]; exact at_coord (fun n => (![0, (Scalar.muli (Scalar.addi (BitVec.ofNat 32 n) 1#32) 1024#32).toNat] : Fin 2 → ℕ)) (fun n => ![0, 1024 * (n + 1)]) (by decide) i
theorem off5_eq (i : grid0.Coords) (h : blk i + 2 < 10) : k0_off5 i = ![0, 1024 * ((blk i + 2) % 10)] := by
  rw [Nat.mod_eq_of_lt h]
  rw [blk_eq]; exact at_coord (fun n => (![0, (Scalar.muli (Scalar.addi (BitVec.ofNat 32 n) 2#32) 1024#32).toNat] : Fin 2 → ℕ)) (fun n => ![0, 1024 * (n + 2)]) (by decide) i
theorem off3_eq (i : grid0.Coords) (h : blk i + 1 < 10) : k0_off3 i = ![0, 1024 * ((blk i + 1) % 10)] := off2_eq i h
theorem off4_eq (i : grid0.Coords) (h : blk i + 1 < 10) : k0_off4 i = ![512, 1024 * ((blk i + 1) % 10)] := by
  rw [Nat.mod_eq_of_lt h]
  rw [blk_eq]; exact at_coord (fun n => (![512, (Scalar.muli (Scalar.addi (BitVec.ofNat 32 n) 1#32) 1024#32).toNat] : Fin 2 → ℕ)) (fun n => ![512, 1024 * (n + 1)]) (by decide) i
theorem off6_eq (i : grid0.Coords) (h : blk i + 2 < 10) : k0_off6 i = ![0, 1024 * ((blk i + 2) % 10)] := off5_eq i h
theorem off7_eq (i : grid0.Coords) : k0_off7 i = ![512, 1024 * (blk i % 10)] := off1_eq i
theorem off8_eq (i : grid0.Coords) (h : blk i + 1 < 10) : k0_off8 i = ![0, 1024 * ((blk i + 1) % 10)] := off2_eq i h
theorem off9_eq (i : grid0.Coords) (h : blk i + 1 < 10) : k0_off9 i = ![0, 1024 * ((blk i + 1) % 10)] := off2_eq i h
theorem off10_eq (i : grid0.Coords) (h : blk i + 1 < 10) : k0_off10 i = ![512, 1024 * ((blk i + 1) % 10)] := off4_eq i h
theorem off11_eq (i : grid0.Coords) (h : blk i + 2 < 10) : k0_off11 i = ![0, 1024 * ((blk i + 2) % 10)] := off5_eq i h
theorem off12_eq (i : grid0.Coords) (h : blk i + 2 < 10) : k0_off12 i = ![0, 1024 * ((blk i + 2) % 10)] := off5_eq i h
theorem off13_eq (i : grid0.Coords) : k0_off13 i = ![512, 1024 * (blk i % 10)] := off1_eq i

/-! ### The canonical names -/

@[sl_canon] theorem canon1 (i : grid0.Coords) (hh hs) :
    wM.slice (Rect.unit (s := S2560x10240) (k0_off1 i) S2048x1024.size hh) hs = wrB (blk i) := wrB_congr (off1_eq i) _ _
@[sl_canon] theorem canon2 (i : grid0.Coords) (h : blk i + 1 < 10) (hh hs) :
    dyM.slice (Rect.unit (s := S1536x10240) (k0_off2 i) S1536x1024.size hh) hs = dyB (blk i + 1) := dyB_congr (off2_eq i h) _ _
@[sl_canon] theorem canon3 (i : grid0.Coords) (h : blk i + 1 < 10) (hh hs) :
    wM.slice (Rect.unit (s := S2560x10240) (k0_off3 i) S512x1024.size hh) hs = wfB (blk i + 1) := wfB_congr (off3_eq i h) _ _
@[sl_canon] theorem canon4 (i : grid0.Coords) (h : blk i + 1 < 10) (hh hs) :
    wM.slice (Rect.unit (s := S2560x10240) (k0_off4 i) S2048x1024.size hh) hs = wrB (blk i + 1) := wrB_congr (off4_eq i h) _ _
@[sl_canon] theorem canon5 (i : grid0.Coords) (h : blk i + 2 < 10) (hh hs) :
    dyM.slice (Rect.unit (s := S1536x10240) (k0_off5 i) S1536x1024.size hh) hs = dyB (blk i + 2) := dyB_congr (off5_eq i h) _ _
@[sl_canon] theorem canon6 (i : grid0.Coords) (h : blk i + 2 < 10) (hh hs) :
    wM.slice (Rect.unit (s := S2560x10240) (k0_off6 i) S512x1024.size hh) hs = wfB (blk i + 2) := wfB_congr (off6_eq i h) _ _
@[sl_canon] theorem canon7 (i : grid0.Coords) (hh hs) :
    wM.slice (Rect.unit (s := S2560x10240) (k0_off7 i) S2048x1024.size hh) hs = wrB (blk i) := wrB_congr (off7_eq i) _ _
@[sl_canon] theorem canon8 (i : grid0.Coords) (h : blk i + 1 < 10) (hh hs) :
    dyM.slice (Rect.unit (s := S1536x10240) (k0_off8 i) S1536x1024.size hh) hs = dyB (blk i + 1) := dyB_congr (off8_eq i h) _ _
@[sl_canon] theorem canon9 (i : grid0.Coords) (h : blk i + 1 < 10) (hh hs) :
    wM.slice (Rect.unit (s := S2560x10240) (k0_off9 i) S512x1024.size hh) hs = wfB (blk i + 1) := wfB_congr (off9_eq i h) _ _
@[sl_canon] theorem canon10 (i : grid0.Coords) (h : blk i + 1 < 10) (hh hs) :
    wM.slice (Rect.unit (s := S2560x10240) (k0_off10 i) S2048x1024.size hh) hs = wrB (blk i + 1) := wrB_congr (off10_eq i h) _ _
@[sl_canon] theorem canon11 (i : grid0.Coords) (h : blk i + 2 < 10) (hh hs) :
    dyM.slice (Rect.unit (s := S1536x10240) (k0_off11 i) S1536x1024.size hh) hs = dyB (blk i + 2) := dyB_congr (off11_eq i h) _ _
@[sl_canon] theorem canon12 (i : grid0.Coords) (h : blk i + 2 < 10) (hh hs) :
    wM.slice (Rect.unit (s := S2560x10240) (k0_off12 i) S512x1024.size hh) hs = wfB (blk i + 2) := wfB_congr (off12_eq i h) _ _
@[sl_canon] theorem canon13 (i : grid0.Coords) (hh hs) :
    wM.slice (Rect.unit (s := S2560x10240) (k0_off13 i) S2048x1024.size hh) hs = wrB (blk i) := wrB_congr (off13_eq i) _ _

/-! ## The body's buffers -/

abbrev dyin0 : Memref sig .tc .vmem S1536x1024 .bf16 := Memref.whole cc0_scratch0
abbrev dyin1 : Memref sig .tc .vmem S1536x1024 .bf16 := Memref.whole cc0_scratch1
abbrev dq0 : Memref sig .tc .vmem S1536x1024 .bf16 := Memref.whole cc0_scratch2
abbrev dq1 : Memref sig .tc .vmem S1536x1024 .bf16 := Memref.whole cc0_scratch3
abbrev wfi0 : Memref sig .tc .vmem S512x1024 .bf16 := Memref.whole cc0_scratch4
abbrev wfi1 : Memref sig .tc .vmem S512x1024 .bf16 := Memref.whole cc0_scratch5
abbrev wfq0 : Memref sig .tc .vmem S512x1024 .bf16 := Memref.whole cc0_scratch6
abbrev wfq1 : Memref sig .tc .vmem S512x1024 .bf16 := Memref.whole cc0_scratch7
abbrev wr0 : Memref sig .tc .vmem S2048x1024 .bf16 := Memref.whole cc0_scratch8
abbrev wr1 : Memref sig .tc .vmem S2048x1024 .bf16 := Memref.whole cc0_scratch9
abbrev accM : Memref sig .tc .vmem S1536x2560 .f32 := Memref.whole cc0_scratch10
abbrev hvM : Memref sig .tc .vmem S1536x2560 .bf16 := Memref.whole cc0_scratch11
abbrev dhvM : Memref sig .tc .vmem S2x128x2560 .bf16 := Memref.whole cc0_scratch12
abbrev dxvM : Memref sig .tc .vmem S2x128x2560 .bf16 := Memref.whole cc0_scratch13
abbrev dhM : Memref sig .tc .hbm S1536x2560 .bf16 := Memref.whole main_v3_0
abbrev dxM : Memref sig .tc .hbm S1536x2560 .bf16 := Memref.whole main_v3_1

/-- A memref's buffer on core `c`. -/
abbrev Bf (c : Dev nD) {sp : Space} {S : Shape} {e : EltTy} (M : Memref sig .tc sp S e) : Type := Buf (Elt F) (M.view.loc (c : Thread nD τ))
/-- The whole buffer of a memref, at contents `f`. -/
abbrev pt (c : Dev nD) {sp : Space} {S : Shape} {e : EltTy} (M : Memref sig .tc sp S e) (f : Bf (F := F) c M) : sProp 𝕄 :=
  M.view.loc (c : Thread nD τ) ↦{fullShare} f
/-- The read token of cell `n`, of a buffer at contents `f`. -/
abbrev tok (c : Dev nD) {sp : Space} {S : Shape} {e : EltTy} (M : Memref sig .tc sp S e) (n : Fin 18) (f : Bf (F := F) c M) : sProp 𝕄 :=
  M.view.loc (c : Thread nD τ) ↦{Transfers.shareTok fullShare 18 n} f
/-- A semaphore cell at zero. -/
abbrev cell (c : Dev nD) (n : Fin 18) : sProp 𝕄 := semVal ((c : Thread nD τ), SemLoc.dma n) 0

/-- A transfer in flight on cell `n` moving block `src` of an array at contents `fs` into the whole buffer `D`: the
    landed buffer, and the block's read token back. -/
abbrev fly (c : Dev nD) {S : Shape} {e : EltTy} {sp sp' : Space} (n : Fin 18) (N : ℕ) (D : Memref sig .tc sp S e) (src : Memref sig .tc sp' S e)
    (fd : Bf (F := F) c D) (fs : Bf (F := F) c src) : sProp 𝕄 :=
  Transfers.Flight countersEmb (c : Thread nD τ) (SemLoc.dma n) () N
    iprop((D.view.loc (c : Thread nD τ) ↦{fullShare} View.write (Elt F) D.view fd (ReadAs.same.apply (src.view.read (Elt F) fs)) Finset.univ)
      ∗ (src.view.loc (c : Thread nD τ) ↦[src.view.set]{Transfers.shareTok fullShare 18 n} fs))
/-- What is kept of the read token while its block is in flight. -/
abbrev tokRest (c : Dev nD) {S : Shape} {e : EltTy} {sp : Space} (n : Fin 18) (src : Memref sig .tc sp S e) (fs : Bf (F := F) c src) : sProp 𝕄 :=
  src.view.loc (c : Thread nD τ) ↦[Finset.univ \ src.view.set]{Transfers.shareTok fullShare 18 n} fs

/-! The same at the three blocks, over the whole array's contents. -/
abbrev dyFly (c : Dev nD) (n : Fin 18) (D : Memref sig .tc .vmem S1536x1024 .bf16) (k : ℕ) (fd : Bf (F := F) c D) (fs : Bf (F := F) c dyM) : sProp 𝕄 :=
  fly c n 98304 D (dyB k) fd fs
abbrev wfFly (c : Dev nD) (n : Fin 18) (D : Memref sig .tc .vmem S512x1024 .bf16) (k : ℕ) (fd : Bf (F := F) c D) (fs : Bf (F := F) c wM) : sProp 𝕄 :=
  fly c n 32768 D (wfB k) fd fs
abbrev wrFly (c : Dev nD) (n : Fin 18) (D : Memref sig .tc .vmem S2048x1024 .bf16) (k : ℕ) (fd : Bf (F := F) c D) (fs : Bf (F := F) c wM) : sProp 𝕄 :=
  fly c n 131072 D (wrB k) fd fs
abbrev dyRest (c : Dev nD) (n : Fin 18) (k : ℕ) (fs : Bf (F := F) c dyM) : sProp 𝕄 := tokRest c n (dyB k) fs
abbrev wfRest (c : Dev nD) (n : Fin 18) (k : ℕ) (fs : Bf (F := F) c wM) : sProp 𝕄 := tokRest c n (wfB k) fs
abbrev wrRest (c : Dev nD) (n : Fin 18) (k : ℕ) (fs : Bf (F := F) c wM) : sProp 𝕄 := tokRest c n (wrB k) fs

end Cert.KernelIdeal.Hand

end
-- ==== Proof.Vals.lean ====
module

public import proofs.«01_k».proof.Proof.Base
public import Idealize.ShloMosaic.Lib.Pipeline.ValueKit.Tiles

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! # What one grid point adds to the accumulator -/

/-- The block `k` of the upstream gradient, the 512-row block of the weight, and its 2048-row block. -/
abbrev dyT (c : Dev nD) (fdy : Bf (F := F) c dyM) (k : ℕ) : Vec F S1536x1024 .bf16 := (dyB k).view.read (Elt F) fdy
abbrev wfT (c : Dev nD) (fw : Bf (F := F) c wM) (k : ℕ) : Vec F S512x1024 .bf16 := (wfB k).view.read (Elt F) fw
abbrev wrT (c : Dev nD) (fw : Bf (F := F) c wM) (k : ℕ) : Vec F S2048x1024 .bf16 := (wrB k).view.read (Elt F) fw

theorem rowsOf_inb (m : ℕ) : ∀ a, (![512 * (m % 3), 0] : Fin 2 → ℕ) a + S512x1024.size a ≤ S1536x1024.size a := by
  intro a; fin_cases a
  · show 512 * (m % 3) + 512 ≤ 1536; omega
  · show 0 + 1024 ≤ 1024; omega

theorem tileOf_inb (m n : ℕ) : ∀ a, (![512 * (m % 3), 512 * (n % 5)] : Fin 2 → ℕ) a + S512x512.size a ≤ S1536x2560.size a := by
  intro a; fin_cases a
  · show 512 * (m % 3) + 512 ≤ 1536; omega
  · show 512 * (n % 5) + 512 ≤ 2560; omega

theorem wrRows_inb (n : ℕ) : ∀ a, (![512 * ((n - 1) % 4), 0] : Fin 2 → ℕ) a + S512x1024.size a ≤ S2048x1024.size a := by
  intro a; fin_cases a
  · show 512 * ((n - 1) % 4) + 512 ≤ 2048; omega
  · show 0 + 1024 ≤ 1024; omega

/-- Rows `512 m …` of a gradient block. -/
def rowsOf (d : Vec F S1536x1024 .bf16) (m : ℕ) : Vec F S512x1024 .bf16 :=
  View.ld d (Rect.unit ![512 * (m % 3), 0] S512x1024.size (rowsOf_inb m))

/-- The tile `(m, n)` of the accumulator. -/
def tileOf (X : Vec F S1536x2560 .f32) (m n : ℕ) : Vec F S512x512 .f32 :=
  View.ld X (Rect.unit ![512 * (m % 3), 512 * (n % 5)] S512x512.size (tileOf_inb m n))

/-- The weight rows `512 n …`: the first 512 come from the one block, the others from the other. -/
def wTile (wf : Vec F S512x1024 .bf16) (wr : Vec F S2048x1024 .bf16) (n : ℕ) : Vec F S512x1024 .bf16 :=
  if n = 0 then View.ld wf (Rect.unit ![0, 0] S512x1024.size inb_S512x1024_S512x1024_0_0)
  else View.ld wr (Rect.unit ![512 * ((n - 1) % 4), 0] S512x1024.size (wrRows_inb n))

/-- The accumulator after one grid point: each tile plus its product over the block. -/
def stepAcc (dq : Vec F S1536x1024 .bf16) (wf : Vec F S512x1024 .bf16) (wr : Vec F S2048x1024 .bf16) (X : Vec F S1536x2560 .f32) :
    Vec F S1536x2560 .f32 := fun y =>
  k0_pay70 (wTile wf wr ((y 1).val / 512)) (tileOf X ((y 0).val / 512) ((y 1).val / 512)) (rowsOf dq ((y 0).val / 512))
    (ix2 (n0 := 512) (n1 := 512) ⟨(y 0).val % 512, Nat.mod_lt _ (by decide)⟩ ⟨(y 1).val % 512, Nat.mod_lt _ (by decide)⟩)

/-! ## The quantised units -/

/-- An entry of the quantised array, from the 256×512 unit that the entry lies in. -/
def qEnt (V : ℕ → ℕ → Elt F .bf16) (a b : ℕ) : Elt F .bf16 :=
  k0_pay5 (F := F) (fun x => V (256 * (a / 256) + (x 0).val) (512 * (b / 512) + (x 1).val))
    (ix2 (n0 := 256) (n1 := 512) ⟨a % 256, Nat.mod_lt _ (by decide)⟩ ⟨b % 512, Nat.mod_lt _ (by decide)⟩)

/-- An array read at two numbers. -/
def at2 {R C : ℕ} [NeZero R] [NeZero C] (X : Vec F ⟨2, ![R, C]⟩ .bf16) (a b : ℕ) : Elt F .bf16 :=
  X (ix2 (n0 := R) (n1 := C) (Fin.ofNat R a) (Fin.ofNat C b))

/-- An array quantised unit by unit. -/
def qArr {R C : ℕ} [NeZero R] [NeZero C] (X : Vec F ⟨2, ![R, C]⟩ .bf16) : Vec F ⟨2, ![R, C]⟩ .bf16 :=
  fun y => qEnt (at2 X) (y 0).val (y 1).val

/-- One quantised unit holds the quantised array's entries there. -/
theorem q_piece {R C : ℕ} [NeZero R] [NeZero C] (X : Vec F ⟨2, ![R, C]⟩ .bf16) (off : Fin 2 → ℕ)
    (inb : ∀ a, off a + S256x512.size a ≤ (⟨2, ![R, C]⟩ : Shape).size a) (h0 : off 0 % 256 = 0) (h1 : off 1 % 512 = 0) :
    ∀ x : (Rect.unit (s := ⟨2, ![R, C]⟩) off S256x512.size inb).shape.Idx,
      (k0_pay5 (View.ld X (Rect.unit (s := ⟨2, ![R, C]⟩) off S256x512.size inb)) : Vec F S256x512 .bf16) x
        = qArr X ((Rect.unit (s := ⟨2, ![R, C]⟩) off S256x512.size inb).emb x) := by
  intro x
  have e0 : (((Rect.unit (s := ⟨2, ![R, C]⟩) off S256x512.size inb).emb x) 0).val = off 0 + (x 0).val := Rect.idx_unit_val _ _ inb x 0
  have e1 : (((Rect.unit (s := ⟨2, ![R, C]⟩) off S256x512.size inb).emb x) 1).val = off 1 + (x 1).val := Rect.idx_unit_val _ _ inb x 1
  have b0 : (x 0).val < 256 := (x 0).isLt
  have b1 : (x 1).val < 512 := (x 1).isLt
  have i0 : off 0 + 256 ≤ R := inb 0
  have i1 : off 1 + 512 ≤ C := inb 1
  unfold qArr qEnt
  rw [e0, e1]
  have ha : 256 * ((off 0 + (x 0).val) / 256) = off 0 := by omega
  have hb : 512 * ((off 1 + (x 1).val) / 512) = off 1 := by omega
  have hx : (ix2 (n0 := 256) (n1 := 512) ⟨(off 0 + (x 0).val) % 256, Nat.mod_lt _ (by decide)⟩ ⟨(off 1 + (x 1).val) % 512, Nat.mod_lt _ (by decide)⟩ : S256x512.Idx) = x := by
    funext k
    match k with
    | 0 => exact Fin.ext (by show (off 0 + (x 0).val) % 256 = (x 0).val; omega)
    | 1 => exact Fin.ext (by show (off 1 + (x 1).val) % 512 = (x 1).val; omega)
  rw [ha, hb, hx]
  refine congrFun (congrArg (k0_pay5 (F := F)) ?_) x
  funext z
  have z0 : (z 0).val < 256 := (z 0).isLt
  have z1 : (z 1).val < 512 := (z 1).isLt
  refine congrArg X ?_
  funext k
  match k with
  | 0 =>
    refine Fin.ext ((Rect.idx_unit_val _ _ inb z 0).trans ?_)
    show off 0 + (z 0).val = (off 0 + (z 0).val) % R
    rw [Nat.mod_eq_of_lt (by omega)]
  | 1 =>
    refine Fin.ext ((Rect.idx_unit_val _ _ inb z 1).trans ?_)
    show off 1 + (z 1).val = (off 1 + (z 1).val) % C
    rw [Nat.mod_eq_of_lt (by omega)]

/-- The accumulator after the first `k` blocks. -/
def accAt (c : Dev nD) (fdy : Bf (F := F) c dyM) (fw : Bf (F := F) c wM) : ℕ → Vec F S1536x2560 .f32
  | 0 => k0_pay4 (F := F)
  | k + 1 => stepAcc (qArr (dyT c fdy k)) (qArr (wfT c fw k)) (qArr (wrT c fw k)) (accAt c fdy fw k)

/-- One stored tile holds what `stepAcc` says there. -/
theorem tile_piece (dq : Vec F S1536x1024 .bf16) (wf : Vec F S512x1024 .bf16) (wr : Vec F S2048x1024 .bf16) (X : Vec F S1536x2560 .f32)
    (m n : ℕ) (hm : m < 3) (hn : n < 5) (a b : ℕ) (ha : a = 512 * m) (hb : b = 512 * n)
    (inb : ∀ k, (![a, b] : Fin 2 → ℕ) k + S512x512.size k ≤ S1536x2560.size k) :
    ∀ x : (Rect.unit (s := S1536x2560) ![a, b] S512x512.size inb).shape.Idx,
      (k0_pay70 (wTile wf wr n) (tileOf X m n) (rowsOf dq m) : Vec F S512x512 .f32) x
        = stepAcc dq wf wr X ((Rect.unit (s := S1536x2560) ![a, b] S512x512.size inb).emb x) := by
  intro x
  subst ha hb
  have h0 : (((Rect.unit (s := S1536x2560) ![512 * m, 512 * n] S512x512.size inb).emb x) 0).val = 512 * m + (x 0).val :=
    Rect.idx_unit_val _ _ inb x 0
  have h1 : (((Rect.unit (s := S1536x2560) ![512 * m, 512 * n] S512x512.size inb).emb x) 1).val = 512 * n + (x 1).val :=
    Rect.idx_unit_val _ _ inb x 1
  have b0 : (x 0).val < 512 := (x 0).isLt
  have b1 : (x 1).val < 512 := (x 1).isLt
  unfold stepAcc
  have e0 : (((Rect.unit (s := S1536x2560) ![512 * m, 512 * n] S512x512.size inb).emb x) 0).val / 512 = m := by rw [h0]; omega
  have e1 : (((Rect.unit (s := S1536x2560) ![512 * m, 512 * n] S512x512.size inb).emb x) 1).val / 512 = n := by rw [h1]; omega
  rw [e0, e1]
  congr 1
  funext k
  match k with
  | 0 => exact Fin.ext (by show (x 0).val = _ % 512; rw [h0]; omega)
  | 1 => exact Fin.ext (by show (x 1).val = _ % 512; rw [h1]; omega)

/-- The fifteen tile writes of a grid point leave `stepAcc`. -/
theorem acc_read (v : View sig .tc .vmem S1536x2560 .f32) (f : v.ty.Contents (Elt F)) (dq : Vec F S1536x1024 .bf16) (wf : Vec F S512x1024 .bf16) (wr : Vec F S2048x1024 .bf16) (X : Vec F S1536x2560 .f32)
    (L : List (View.Piece (Elt F) S1536x2560 .f32)) (hL : ∀ p ∈ L, ∀ x : p.1.shape.Idx, p.2 x = stepAcc dq wf wr X (p.1.emb x))
    (hc : ∀ y : S1536x2560.Idx, ∃ p ∈ L, y ∈ p.1.set) :
    v.read (Elt F) (v.writes (Elt F) f L) = stepAcc dq wf wr X :=
  funext fun y => View.read_writes_apply_of_pieces v f (stepAcc dq wf wr X) L hL y (hc y)

/-- The same for a payload that is the tile's sum by definition. -/
theorem tile_ok (dq : Vec F S1536x1024 .bf16) (wf : Vec F S512x1024 .bf16) (wr : Vec F S2048x1024 .bf16) (X : Vec F S1536x2560 .f32)
    (m n : ℕ) (hm : m < 3) (hn : n < 5) (a b : ℕ) (ha : a = 512 * m) (hb : b = 512 * n)
    (inb : ∀ k, (![a, b] : Fin 2 → ℕ) k + S512x512.size k ≤ S1536x2560.size k) (P : Vec F S512x512 .f32)
    (hP : P = k0_pay70 (wTile wf wr n) (tileOf X m n) (rowsOf dq m)) :
    ∀ x : (Rect.unit (s := S1536x2560) ![a, b] S512x512.size inb).shape.Idx,
      P x = stepAcc dq wf wr X ((Rect.unit (s := S1536x2560) ![a, b] S512x512.size inb).emb x) := by
  subst hP
  exact tile_piece dq wf wr X m n hm hn a b ha hb inb

/-- A payload that is a quantised unit by definition. -/
theorem q_ok {R C : ℕ} [NeZero R] [NeZero C] (X : Vec F ⟨2, ![R, C]⟩ .bf16) (off : Fin 2 → ℕ)
    (inb : ∀ a, off a + S256x512.size a ≤ (⟨2, ![R, C]⟩ : Shape).size a) (h0 : off 0 % 256 = 0) (h1 : off 1 % 512 = 0) (P : Vec F S256x512 .bf16)
    (hP : P = k0_pay5 (View.ld X (Rect.unit (s := ⟨2, ![R, C]⟩) off S256x512.size inb))) :
    ∀ x : (Rect.unit (s := ⟨2, ![R, C]⟩) off S256x512.size inb).shape.Idx,
      P x = qArr X ((Rect.unit (s := ⟨2, ![R, C]⟩) off S256x512.size inb).emb x) := by
  subst hP
  exact q_piece X off inb h0 h1

end Cert.KernelIdeal.Hand

end
-- ==== Proof.Parts.lean ====
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
/-! ## The body in four parts, each before the rest of it -/

/-- The first part of the body: the start-up copies and the first block’s units, at the first point only. -/
def partA (i : grid0.Coords) (arg1 : Memref sig .tc .hbm S1536x10240 .bf16) (harg1 : arg1.IsWhole) (arg2 : Memref sig .tc .hbm S2560x10240 .bf16) (harg2 : arg2.IsWhole) (arg3 : Memref sig .tc .hbm S1536x2560 .bf16) (harg3 : arg3.IsWhole) (arg4 : Memref sig .tc .vmem S1x2560 .f32) (harg4 : arg4.IsWhole) (arg5 : Memref sig .tc .hbm S1536x2560 .bf16) (harg5 : arg5.IsWhole) (arg6 : Memref sig .tc .hbm S1536x2560 .bf16) (harg6 : arg6.IsWhole) (arg7 : Memref sig .tc .vmem S1536x1024 .bf16) (harg7 : arg7.IsWhole) (arg8 : Memref sig .tc .vmem S1536x1024 .bf16) (harg8 : arg8.IsWhole) (arg9 : Memref sig .tc .vmem S1536x1024 .bf16) (harg9 : arg9.IsWhole) (arg10 : Memref sig .tc .vmem S1536x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S2048x1024 .bf16) (harg15 : arg15.IsWhole) (arg16 : Memref sig .tc .vmem S2048x1024 .bf16) (harg16 : arg16.IsWhole) (arg17 : Memref sig .tc .vmem S1536x2560 .f32) (harg17 : arg17.IsWhole) (arg18 : Memref sig .tc .vmem S1536x2560 .bf16) (harg18 : arg18.IsWhole) (arg19 : Memref sig .tc .vmem S2x128x2560 .bf16) (harg19 : arg19.IsWhole) (arg20 : Memref sig .tc .vmem S2x128x2560 .bf16) (harg20 : arg20.IsWhole) (arg21 : DmaSems sig S3x2) (arg22 : DmaSems sig S6) (arg23 : DmaSems sig S_) (arg24 : DmaSems sig S2x2)
    (rest : Prog (TpuEff nD τ sig (Elt F) Λ₀ .tc) PUnit) :
    Prog (TpuEff nD τ sig (Elt F) Λ₀ .tc) PUnit := do
  let arg0 : BitVec 32 := BitVec.ofNat 32 (i 0).val
  if k0_h1 : k0_cond1 i = 1#1 then do
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24
    k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24
    let ⟨v113, v114⟩ : Σ' (v113 : FVec F S256x16x32 .bf16), FVec F S256x16x32 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v113 v114
    let ⟨v196, v199⟩ : Σ' (v196 : FVec F S256x16x32 .bf16), FVec F S256x16 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24
    let v240 : FVec F S256x16x32 .bf16 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v196 v199
    let ⟨v279, v283, v284⟩ : Σ' (v279 : FVec F S256x16x32 .bf16) (v283 : FVec F S256x16x1 .f32), FVec F S256x16x1 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v240
    let ⟨v323, v325⟩ : Σ' (v323 : FVec F S256x16x32 .bf16), FVec F S256x16x32 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v279 v283 v284
    let ⟨v362, v366, v368, v369⟩ : Σ' (v362 : FVec F S256x16x32 .bf16) (v366 : FVec F S256x16x1 .f32) (v368 : FVec F S256x16x1 .f32), FVec F S256x16x1 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v323 v325
    let ⟨v406, v410, cst_175⟩ : Σ' (v406 : FVec F S256x16x32 .bf16) (v410 : FVec F S256x16x1 .f32), F .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v362 v366 v368 v369
    let ⟨v445, v453, v454, cst_190⟩ : Σ' (v445 : FVec F S256x16x32 .bf16) (v453 : IVec S256x16x1 1) (v454 : FVec F S256x16x1 .f32), F .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v406 v410 cst_175
    let ⟨v489, v493, v495, cst_206⟩ : Σ' (v489 : FVec F S256x16x32 .bf16) (v493 : FVec F S256x16x1 .f32) (v495 : FVec F S256x16x1 .f32), F .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v445 v453 v454 cst_190
    let ⟨v528, v536, v540⟩ : Σ' (v528 : FVec F S256x16x32 .bf16) (v536 : IVec S256x16x1 1), FVec F S256x16x1 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v489 v493 v495 cst_206
    let ⟨v571, v579, v580, v581⟩ : Σ' (v571 : FVec F S256x16x32 .bf16) (v579 : IVec S256x16x1 1) (v580 : FVec F S256x16x1 .f32), FVec F S256x16x1 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v528 v536 v540
    let ⟨v610, v618, v625, cst_252⟩ : Σ' (v610 : FVec F S256x16x32 .bf16) (v618 : IVec S256x16x1 1) (v625 : FVec F S256x16x1 .f32), F .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v571 v579 v580 v581
    let ⟨v649, v666, v670⟩ : Σ' (v649 : FVec F S256x16x32 .bf16) (v666 : FVec F S256x16x1 .f32), FVec F S256x16x1 .bf16 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v610 v618 v625 cst_252
    let ⟨v705, v713, v714⟩ : Σ' (v705 : FVec F S256x16x1 .f32) (v713 : FVec F S256x16x32 .bf16), FVec F S256x16x32 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v649 v666 v670
    let v723 : Vec F S256x512 .bf16 ← Prog.lift (.load arg13 (Rect.unit (s := S512x1024) ![256, 512] S256x512.size inb_S512x1024_S256x512_256_512).toLoadRect (View.loadsAt_vmem h_S256x512))
    Prog.lift (.store arg13 (Rect.unit (s := S512x1024) ![256, 512] S256x512.size inb_S512x1024_S256x512_256_512) (k0_pay1 v705 v713 v714) Finset.univ (View.stores_vmem h_S256x512 (harg13.storeExact_slice rfl _ packedbf16_S512x1024_S256x512_256_512) (fun _ => rfl)) (.inl rfl))
    pure ⟨⟩
  else do
    pure ⟨⟩
  rest

/-- The second part: a step on the even buffers. -/
def partB (i : grid0.Coords) (arg1 : Memref sig .tc .hbm S1536x10240 .bf16) (harg1 : arg1.IsWhole) (arg2 : Memref sig .tc .hbm S2560x10240 .bf16) (harg2 : arg2.IsWhole) (arg3 : Memref sig .tc .hbm S1536x2560 .bf16) (harg3 : arg3.IsWhole) (arg4 : Memref sig .tc .vmem S1x2560 .f32) (harg4 : arg4.IsWhole) (arg5 : Memref sig .tc .hbm S1536x2560 .bf16) (harg5 : arg5.IsWhole) (arg6 : Memref sig .tc .hbm S1536x2560 .bf16) (harg6 : arg6.IsWhole) (arg7 : Memref sig .tc .vmem S1536x1024 .bf16) (harg7 : arg7.IsWhole) (arg8 : Memref sig .tc .vmem S1536x1024 .bf16) (harg8 : arg8.IsWhole) (arg9 : Memref sig .tc .vmem S1536x1024 .bf16) (harg9 : arg9.IsWhole) (arg10 : Memref sig .tc .vmem S1536x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S2048x1024 .bf16) (harg15 : arg15.IsWhole) (arg16 : Memref sig .tc .vmem S2048x1024 .bf16) (harg16 : arg16.IsWhole) (arg17 : Memref sig .tc .vmem S1536x2560 .f32) (harg17 : arg17.IsWhole) (arg18 : Memref sig .tc .vmem S1536x2560 .bf16) (harg18 : arg18.IsWhole) (arg19 : Memref sig .tc .vmem S2x128x2560 .bf16) (harg19 : arg19.IsWhole) (arg20 : Memref sig .tc .vmem S2x128x2560 .bf16) (harg20 : arg20.IsWhole) (arg21 : DmaSems sig S3x2) (arg22 : DmaSems sig S6) (arg23 : DmaSems sig S_) (arg24 : DmaSems sig S2x2)
    (rest : Prog (TpuEff nD τ sig (Elt F) Λ₀ .tc) PUnit) :
    Prog (TpuEff nD τ sig (Elt F) Λ₀ .tc) PUnit := do
  let arg0 : BitVec 32 := BitVec.ofNat 32 (i 0).val
  if k0_h2 : k0_cond2 i = 1#1 then do
    let v1405 : Vec F S512x1024 .bf16 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg0 k0_h2
    let v1406 : Vec F S512x512 .f32 ← Prog.lift (.load arg17 (Rect.unit (s := S1536x2560) ![1024, 2048] S512x512.size inb_S1536x2560_S512x512_1024_2048).toLoadRect (View.loadsAt_vmem h_S512x512))
    let v1407 : Vec F S512x1024 .bf16 ← Prog.lift (.load arg9 (Rect.unit (s := S1536x1024) ![1024, 0] S512x1024.size inb_S1536x1024_S512x1024_1024_0).toLoadRect (View.loadsAt_vmem h_S512x1024))
    let v1410 : Vec F S512x512 .f32 ← Prog.lift (.load arg17 (Rect.unit (s := S1536x2560) ![1024, 2048] S512x512.size inb_S1536x2560_S512x512_1024_2048).toLoadRect (View.loadsAt_vmem h_S512x512))
    Prog.lift (.store arg17 (Rect.unit (s := S1536x2560) ![1024, 2048] S512x512.size inb_S1536x2560_S512x512_1024_2048) (k0_pay2 v1405 v1406 v1407) Finset.univ (View.stores_vmem_bits_univ h_S512x512 rfl) (.inl rfl))
    pure ⟨⟩
  else do
    pure ⟨⟩
  rest

/-- The third part: a step on the odd buffers. -/
def partC (i : grid0.Coords) (arg1 : Memref sig .tc .hbm S1536x10240 .bf16) (harg1 : arg1.IsWhole) (arg2 : Memref sig .tc .hbm S2560x10240 .bf16) (harg2 : arg2.IsWhole) (arg3 : Memref sig .tc .hbm S1536x2560 .bf16) (harg3 : arg3.IsWhole) (arg4 : Memref sig .tc .vmem S1x2560 .f32) (harg4 : arg4.IsWhole) (arg5 : Memref sig .tc .hbm S1536x2560 .bf16) (harg5 : arg5.IsWhole) (arg6 : Memref sig .tc .hbm S1536x2560 .bf16) (harg6 : arg6.IsWhole) (arg7 : Memref sig .tc .vmem S1536x1024 .bf16) (harg7 : arg7.IsWhole) (arg8 : Memref sig .tc .vmem S1536x1024 .bf16) (harg8 : arg8.IsWhole) (arg9 : Memref sig .tc .vmem S1536x1024 .bf16) (harg9 : arg9.IsWhole) (arg10 : Memref sig .tc .vmem S1536x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S2048x1024 .bf16) (harg15 : arg15.IsWhole) (arg16 : Memref sig .tc .vmem S2048x1024 .bf16) (harg16 : arg16.IsWhole) (arg17 : Memref sig .tc .vmem S1536x2560 .f32) (harg17 : arg17.IsWhole) (arg18 : Memref sig .tc .vmem S1536x2560 .bf16) (harg18 : arg18.IsWhole) (arg19 : Memref sig .tc .vmem S2x128x2560 .bf16) (harg19 : arg19.IsWhole) (arg20 : Memref sig .tc .vmem S2x128x2560 .bf16) (harg20 : arg20.IsWhole) (arg21 : DmaSems sig S3x2) (arg22 : DmaSems sig S6) (arg23 : DmaSems sig S_) (arg24 : DmaSems sig S2x2)
    (rest : Prog (TpuEff nD τ sig (Elt F) Λ₀ .tc) PUnit) :
    Prog (TpuEff nD τ sig (Elt F) Λ₀ .tc) PUnit := do
  let arg0 : BitVec 32 := BitVec.ofNat 32 (i 0).val
  if k0_h4 : k0_cond4 i = 1#1 then do
    let v1405 : Vec F S512x1024 .bf16 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg0 k0_h4
    let v1406 : Vec F S512x512 .f32 ← Prog.lift (.load arg17 (Rect.unit (s := S1536x2560) ![1024, 2048] S512x512.size inb_S1536x2560_S512x512_1024_2048).toLoadRect (View.loadsAt_vmem h_S512x512))
    let v1407 : Vec F S512x1024 .bf16 ← Prog.lift (.load arg10 (Rect.unit (s := S1536x1024) ![1024, 0] S512x1024.size inb_S1536x1024_S512x1024_1024_0).toLoadRect (View.loadsAt_vmem h_S512x1024))
    let v1410 : Vec F S512x512 .f32 ← Prog.lift (.load arg17 (Rect.unit (s := S1536x2560) ![1024, 2048] S512x512.size inb_S1536x2560_S512x512_1024_2048).toLoadRect (View.loadsAt_vmem h_S512x512))
    Prog.lift (.store arg17 (Rect.unit (s := S1536x2560) ![1024, 2048] S512x512.size inb_S1536x2560_S512x512_1024_2048) (k0_pay3 v1405 v1406 v1407) Finset.univ (View.stores_vmem_bits_univ h_S512x512 rfl) (.inl rfl))
    pure ⟨⟩
  else do
    pure ⟨⟩
  rest

/-- The last part: the last block, the norm and the copies out, at the last point only. -/
def partD (i : grid0.Coords) (arg1 : Memref sig .tc .hbm S1536x10240 .bf16) (harg1 : arg1.IsWhole) (arg2 : Memref sig .tc .hbm S2560x10240 .bf16) (harg2 : arg2.IsWhole) (arg3 : Memref sig .tc .hbm S1536x2560 .bf16) (harg3 : arg3.IsWhole) (arg4 : Memref sig .tc .vmem S1x2560 .f32) (harg4 : arg4.IsWhole) (arg5 : Memref sig .tc .hbm S1536x2560 .bf16) (harg5 : arg5.IsWhole) (arg6 : Memref sig .tc .hbm S1536x2560 .bf16) (harg6 : arg6.IsWhole) (arg7 : Memref sig .tc .vmem S1536x1024 .bf16) (harg7 : arg7.IsWhole) (arg8 : Memref sig .tc .vmem S1536x1024 .bf16) (harg8 : arg8.IsWhole) (arg9 : Memref sig .tc .vmem S1536x1024 .bf16) (harg9 : arg9.IsWhole) (arg10 : Memref sig .tc .vmem S1536x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S2048x1024 .bf16) (harg15 : arg15.IsWhole) (arg16 : Memref sig .tc .vmem S2048x1024 .bf16) (harg16 : arg16.IsWhole) (arg17 : Memref sig .tc .vmem S1536x2560 .f32) (harg17 : arg17.IsWhole) (arg18 : Memref sig .tc .vmem S1536x2560 .bf16) (harg18 : arg18.IsWhole) (arg19 : Memref sig .tc .vmem S2x128x2560 .bf16) (harg19 : arg19.IsWhole) (arg20 : Memref sig .tc .vmem S2x128x2560 .bf16) (harg20 : arg20.IsWhole) (arg21 : DmaSems sig S3x2) (arg22 : DmaSems sig S6) (arg23 : DmaSems sig S_) (arg24 : DmaSems sig S2x2)
    (rest : Prog (TpuEff nD τ sig (Elt F) Λ₀ .tc) PUnit) :
    Prog (TpuEff nD τ sig (Elt F) Λ₀ .tc) PUnit := do
  let arg0 : BitVec 32 := BitVec.ofNat 32 (i 0).val
  if k0_h6 : k0_cond6 i = 1#1 then do
    k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg0 k0_h6
    let v787 : Memref sig .tc .hbm S128x2560 .bf16 := arg6.slice (Rect.unit (s := S1536x2560) ![1408, 0] S128x2560.size inb_S1536x2560_S128x2560_1408_0) (fun _ => rfl)
    let v788 : Memref sig .tc .vmem S1x128x2560 .bf16 := arg20.slice (Rect.unit (s := S2x128x2560) ![1, 0, 0] S1x128x2560.size inb_S2x128x2560_S1x128x2560_1_0_0) (fun _ => rfl)
    let v789 : Memref sig .tc .vmem S128x2560 .bf16 := v788.squeeze S128x2560 squeezes_S1x128x2560_S128x2560
    let v785 : DmaSems sig S1x1 := arg24.slice (Rect.unit (s := S2x2) ![1, 1] S1x1.size inb_S2x2_S1x1_1_1)
    let v786 : DmaSems sig S_ := v785.squeeze S_ squeezes_S1x1_S_
    Prog.lift (.waitDma2 v786.sem v789 v787 ((harg20.wordExact_slice rfl _ wordsbf16_S2x128x2560_S1x128x2560_1_0_0).reshape _ _) (harg6.wordExact_slice rfl _ wordsbf16_S1536x2560_S128x2560_1408_0))
    pure ⟨⟩
  else do
    pure ⟨⟩
  rest

set_option maxRecDepth 65536 in
/-- The body is its four parts, one after another. -/
theorem body_parts (i : grid0.Coords) (arg1 : Memref sig .tc .hbm S1536x10240 .bf16) (harg1 : arg1.IsWhole) (arg2 : Memref sig .tc .hbm S2560x10240 .bf16) (harg2 : arg2.IsWhole) (arg3 : Memref sig .tc .hbm S1536x2560 .bf16) (harg3 : arg3.IsWhole) (arg4 : Memref sig .tc .vmem S1x2560 .f32) (harg4 : arg4.IsWhole) (arg5 : Memref sig .tc .hbm S1536x2560 .bf16) (harg5 : arg5.IsWhole) (arg6 : Memref sig .tc .hbm S1536x2560 .bf16) (harg6 : arg6.IsWhole) (arg7 : Memref sig .tc .vmem S1536x1024 .bf16) (harg7 : arg7.IsWhole) (arg8 : Memref sig .tc .vmem S1536x1024 .bf16) (harg8 : arg8.IsWhole) (arg9 : Memref sig .tc .vmem S1536x1024 .bf16) (harg9 : arg9.IsWhole) (arg10 : Memref sig .tc .vmem S1536x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S2048x1024 .bf16) (harg15 : arg15.IsWhole) (arg16 : Memref sig .tc .vmem S2048x1024 .bf16) (harg16 : arg16.IsWhole) (arg17 : Memref sig .tc .vmem S1536x2560 .f32) (harg17 : arg17.IsWhole) (arg18 : Memref sig .tc .vmem S1536x2560 .bf16) (harg18 : arg18.IsWhole) (arg19 : Memref sig .tc .vmem S2x128x2560 .bf16) (harg19 : arg19.IsWhole) (arg20 : Memref sig .tc .vmem S2x128x2560 .bf16) (harg20 : arg20.IsWhole) (arg21 : DmaSems sig S3x2) (arg22 : DmaSems sig S6) (arg23 : DmaSems sig S_) (arg24 : DmaSems sig S2x2) :
    cc0_mx_dgrad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 =
      partA (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 (partB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 (partC (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 (partD (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 (pure ⟨⟩)))) := by
  rw [cc0_mx_dgrad_eq_skeleton]; rfl

/-- Part A at the kernel's buffers. -/
abbrev progA (i : grid0.Coords) (st : Memref sig .tc .vmem S1x2560 .f32) (hst : st.IsWhole) (rest : Prog (TpuEff nD τ sig (Elt F) Λ₀ .tc) PUnit) :
    Prog (TpuEff nD τ sig (Elt F) Λ₀ .tc) PUnit :=
  partA i dyM (Memref.isWhole_whole _) wM (Memref.isWhole_whole _) hM (Memref.isWhole_whole _) st hst dhM (Memref.isWhole_whole _) dxM (Memref.isWhole_whole _) dyin0 (Memref.isWhole_whole _) dyin1 (Memref.isWhole_whole _) dq0 (Memref.isWhole_whole _) dq1 (Memref.isWhole_whole _) wfi0 (Memref.isWhole_whole _) wfi1 (Memref.isWhole_whole _) wfq0 (Memref.isWhole_whole _) wfq1 (Memref.isWhole_whole _) wr0 (Memref.isWhole_whole _) wr1 (Memref.isWhole_whole _) accM (Memref.isWhole_whole _) hvM (Memref.isWhole_whole _) dhvM (Memref.isWhole_whole _) dxvM (Memref.isWhole_whole _) cc0_scratch14 cc0_scratch15 cc0_scratch16 cc0_scratch17 rest
/-- Part B at the kernel's buffers. -/
abbrev progB (i : grid0.Coords) (st : Memref sig .tc .vmem S1x2560 .f32) (hst : st.IsWhole) (rest : Prog (TpuEff nD τ sig (Elt F) Λ₀ .tc) PUnit) :
    Prog (TpuEff nD τ sig (Elt F) Λ₀ .tc) PUnit :=
  partB i dyM (Memref.isWhole_whole _) wM (Memref.isWhole_whole _) hM (Memref.isWhole_whole _) st hst dhM (Memref.isWhole_whole _) dxM (Memref.isWhole_whole _) dyin0 (Memref.isWhole_whole _) dyin1 (Memref.isWhole_whole _) dq0 (Memref.isWhole_whole _) dq1 (Memref.isWhole_whole _) wfi0 (Memref.isWhole_whole _) wfi1 (Memref.isWhole_whole _) wfq0 (Memref.isWhole_whole _) wfq1 (Memref.isWhole_whole _) wr0 (Memref.isWhole_whole _) wr1 (Memref.isWhole_whole _) accM (Memref.isWhole_whole _) hvM (Memref.isWhole_whole _) dhvM (Memref.isWhole_whole _) dxvM (Memref.isWhole_whole _) cc0_scratch14 cc0_scratch15 cc0_scratch16 cc0_scratch17 rest
/-- Part C at the kernel's buffers. -/
abbrev progC (i : grid0.Coords) (st : Memref sig .tc .vmem S1x2560 .f32) (hst : st.IsWhole) (rest : Prog (TpuEff nD τ sig (Elt F) Λ₀ .tc) PUnit) :
    Prog (TpuEff nD τ sig (Elt F) Λ₀ .tc) PUnit :=
  partC i dyM (Memref.isWhole_whole _) wM (Memref.isWhole_whole _) hM (Memref.isWhole_whole _) st hst dhM (Memref.isWhole_whole _) dxM (Memref.isWhole_whole _) dyin0 (Memref.isWhole_whole _) dyin1 (Memref.isWhole_whole _) dq0 (Memref.isWhole_whole _) dq1 (Memref.isWhole_whole _) wfi0 (Memref.isWhole_whole _) wfi1 (Memref.isWhole_whole _) wfq0 (Memref.isWhole_whole _) wfq1 (Memref.isWhole_whole _) wr0 (Memref.isWhole_whole _) wr1 (Memref.isWhole_whole _) accM (Memref.isWhole_whole _) hvM (Memref.isWhole_whole _) dhvM (Memref.isWhole_whole _) dxvM (Memref.isWhole_whole _) cc0_scratch14 cc0_scratch15 cc0_scratch16 cc0_scratch17 rest
/-- Part D at the kernel's buffers. -/
abbrev progD (i : grid0.Coords) (st : Memref sig .tc .vmem S1x2560 .f32) (hst : st.IsWhole) (rest : Prog (TpuEff nD τ sig (Elt F) Λ₀ .tc) PUnit) :
    Prog (TpuEff nD τ sig (Elt F) Λ₀ .tc) PUnit :=
  partD i dyM (Memref.isWhole_whole _) wM (Memref.isWhole_whole _) hM (Memref.isWhole_whole _) st hst dhM (Memref.isWhole_whole _) dxM (Memref.isWhole_whole _) dyin0 (Memref.isWhole_whole _) dyin1 (Memref.isWhole_whole _) dq0 (Memref.isWhole_whole _) dq1 (Memref.isWhole_whole _) wfi0 (Memref.isWhole_whole _) wfi1 (Memref.isWhole_whole _) wfq0 (Memref.isWhole_whole _) wfq1 (Memref.isWhole_whole _) wr0 (Memref.isWhole_whole _) wr1 (Memref.isWhole_whole _) accM (Memref.isWhole_whole _) hvM (Memref.isWhole_whole _) dhvM (Memref.isWhole_whole _) dxvM (Memref.isWhole_whole _) cc0_scratch14 cc0_scratch15 cc0_scratch16 cc0_scratch17 rest
theorem skipA (i : grid0.Coords) (st : Memref sig .tc .vmem S1x2560 .f32) (hst : st.IsWhole) (rest : Prog (TpuEff nD τ sig (Elt F) Λ₀ .tc) PUnit)
    (h : ¬ k0_cond1 i = 1#1) : progA i st hst rest = rest := by
  unfold progA partA; exact dif_neg h
theorem skipB (i : grid0.Coords) (st : Memref sig .tc .vmem S1x2560 .f32) (hst : st.IsWhole) (rest : Prog (TpuEff nD τ sig (Elt F) Λ₀ .tc) PUnit)
    (h : ¬ k0_cond2 i = 1#1) : progB i st hst rest = rest := by
  unfold progB partB; exact dif_neg h
theorem skipC (i : grid0.Coords) (st : Memref sig .tc .vmem S1x2560 .f32) (hst : st.IsWhole) (rest : Prog (TpuEff nD τ sig (Elt F) Λ₀ .tc) PUnit)
    (h : ¬ k0_cond4 i = 1#1) : progC i st hst rest = rest := by
  unfold progC partC; exact dif_neg h
theorem skipD (i : grid0.Coords) (st : Memref sig .tc .vmem S1x2560 .f32) (hst : st.IsWhole) (rest : Prog (TpuEff nD τ sig (Elt F) Λ₀ .tc) PUnit)
    (h : ¬ k0_cond6 i = 1#1) : progD i st hst rest = rest := by
  unfold progD partD; exact dif_neg h
/-- The body at the kernel's buffers. -/
abbrev body (i : grid0.Coords) (st : Memref sig .tc .vmem S1x2560 .f32) (hst : st.IsWhole) : Prog (TpuEff nD τ sig (Elt F) Λ₀ .tc) PUnit :=
  cc0_mx_dgrad i dyM (Memref.isWhole_whole _) wM (Memref.isWhole_whole _) hM (Memref.isWhole_whole _) st hst dhM (Memref.isWhole_whole _) dxM (Memref.isWhole_whole _) dyin0 (Memref.isWhole_whole _) dyin1 (Memref.isWhole_whole _) dq0 (Memref.isWhole_whole _) dq1 (Memref.isWhole_whole _) wfi0 (Memref.isWhole_whole _) wfi1 (Memref.isWhole_whole _) wfq0 (Memref.isWhole_whole _) wfq1 (Memref.isWhole_whole _) wr0 (Memref.isWhole_whole _) wr1 (Memref.isWhole_whole _) accM (Memref.isWhole_whole _) hvM (Memref.isWhole_whole _) dhvM (Memref.isWhole_whole _) dxvM (Memref.isWhole_whole _) cc0_scratch14 cc0_scratch15 cc0_scratch16 cc0_scratch17
theorem body_eq (i : grid0.Coords) (st : Memref sig .tc .vmem S1x2560 .f32) (hst : st.IsWhole) :
    body (F := F) i st hst = progA i st hst (progB i st hst (progC i st hst (progD i st hst (pure ⟨⟩)))) := body_parts ..

end Cert.KernelIdeal.Hand

end
-- ==== Proof.Core.lean ====
module

public import proofs.«01_k».proof.Proof.Vals
public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! # What the buffers hold between grid points -/

/-- A buffer of unknown contents. -/
abbrev any (c : Dev nD) {sp : Space} {S : Shape} {e : EltTy} (M : Memref sig .tc sp S e) : sProp 𝕄 := iprop(∃ f, pt (F := F) c M f)

/-- A buffer that reads `X`. -/
abbrev has (c : Dev nD) {sp : Space} {S : Shape} {e : EltTy} (M : Memref sig .tc sp S e) (X : Vec F S e) : sProp 𝕄 :=
  iprop(∃ f, pt (F := F) c M f ∗ ⌜M.view.read (Elt F) f = X⌝)

/-- Before an even grid point `k`: block `k + 1` of the gradient and of the weight's first rows, and block `k` of its
    other rows, are on the way; the first parity's operands hold block `k`; the accumulator holds the blocks before. -/
def stE (c : Dev nD) (k : ℕ) (fdy : Bf (F := F) c dyM) (fw : Bf (F := F) c wM) : sProp 𝕄 :=
  iprop((∃ fd, dyFly c 2 dyin1 (k + 1) fd fdy) ∗ dyRest c 2 (k + 1) fdy ∗ tok c dyM 1 fdy
    ∗ (∃ fd, wfFly c 4 wfi1 (k + 1) fd fw) ∗ wfRest c 4 (k + 1) fw ∗ tok c wM 3 fw
    ∗ (∃ fd, wrFly c 5 wr0 k fd fw) ∗ wrRest c 5 k fw ∗ tok c wM 6 fw
    ∗ cell c 1 ∗ cell c 3 ∗ cell c 6
    ∗ any c dyin0 ∗ any c wfi0 ∗ any c wr1
    ∗ has c dq0 (qArr (dyT c fdy k)) ∗ any c dq1 ∗ has c wfq0 (qArr (wfT c fw k)) ∗ any c wfq1 ∗ has c accM (accAt c fdy fw k)
    ∗ ∃ W, owes (c : Thread nD τ) 0 W)

/-- Before an odd grid point `k` that is not the last one: the same with the parities exchanged. -/
def stO (c : Dev nD) (k : ℕ) (fdy : Bf (F := F) c dyM) (fw : Bf (F := F) c wM) : sProp 𝕄 :=
  iprop((∃ fd, dyFly c 1 dyin0 (k + 1) fd fdy) ∗ dyRest c 1 (k + 1) fdy ∗ tok c dyM 2 fdy
    ∗ (∃ fd, wfFly c 3 wfi0 (k + 1) fd fw) ∗ wfRest c 3 (k + 1) fw ∗ tok c wM 4 fw
    ∗ (∃ fd, wrFly c 6 wr1 k fd fw) ∗ wrRest c 6 k fw ∗ tok c wM 5 fw
    ∗ cell c 2 ∗ cell c 4 ∗ cell c 5
    ∗ any c dyin1 ∗ any c wfi1 ∗ any c wr0
    ∗ has c dq1 (qArr (dyT c fdy k)) ∗ any c dq0 ∗ has c wfq1 (qArr (wfT c fw k)) ∗ any c wfq0 ∗ has c accM (accAt c fdy fw k)
    ∗ ∃ W, owes (c : Thread nD τ) 0 W)

/-- Before the last grid point: only the other rows of the weight's last block are on the way. -/
def stL (c : Dev nD) (fdy : Bf (F := F) c dyM) (fw : Bf (F := F) c wM) : sProp 𝕄 :=
  iprop(tok c dyM 1 fdy ∗ tok c dyM 2 fdy ∗ tok c wM 3 fw ∗ tok c wM 4 fw ∗ tok c wM 5 fw
    ∗ (∃ fd, wrFly c 6 wr1 9 fd fw) ∗ wrRest c 6 9 fw
    ∗ cell c 1 ∗ cell c 2 ∗ cell c 3 ∗ cell c 4 ∗ cell c 5
    ∗ any c dyin0 ∗ any c dyin1 ∗ any c wfi0 ∗ any c wfi1 ∗ any c wr0
    ∗ has c dq1 (qArr (dyT c fdy 9)) ∗ any c dq0 ∗ has c wfq1 (qArr (wfT c fw 9)) ∗ any c wfq0 ∗ has c accM (accAt c fdy fw 9)
    ∗ ∃ W, owes (c : Thread nD τ) 0 W)

/-- A gradient block copied unit by unit reads as the block. -/
theorem dq_read (v : View sig .tc .vmem S1536x1024 .bf16) (f : v.ty.Contents (Elt F)) (X : Vec F S1536x1024 .bf16)
    (L : List (View.Piece (Elt F) S1536x1024 .bf16)) (hL : ∀ p ∈ L, ∀ x : p.1.shape.Idx, p.2 x = X (p.1.emb x))
    (hc : ∀ y : S1536x1024.Idx, ∃ p ∈ L, y ∈ p.1.set) :
    v.read (Elt F) (v.writes (Elt F) f L) = X :=
  funext fun y => View.read_writes_apply_of_pieces v f X L hL y (hc y)

/-- The same for the weight's first rows. -/
theorem wq_read (v : View sig .tc .vmem S512x1024 .bf16) (f : v.ty.Contents (Elt F)) (X : Vec F S512x1024 .bf16)
    (L : List (View.Piece (Elt F) S512x1024 .bf16)) (hL : ∀ p ∈ L, ∀ x : p.1.shape.Idx, p.2 x = X (p.1.emb x))
    (hc : ∀ y : S512x1024.Idx, ∃ p ∈ L, y ∈ p.1.set) :
    v.read (Elt F) (v.writes (Elt F) f L) = X :=
  funext fun y => View.read_writes_apply_of_pieces v f X L hL y (hc y)

/-- The six tokens and semaphores that the first point's row copies use. -/
def rowToks (c : Dev nD) (fdy : Bf (F := F) c dyM) : sProp 𝕄 :=
  iprop(tok c dyM 7 fdy ∗ tok c dyM 8 fdy ∗ tok c dyM 9 fdy ∗ tok c dyM 10 fdy ∗ tok c dyM 11 fdy ∗ tok c dyM 12 fdy
    ∗ cell c 7 ∗ cell c 8 ∗ cell c 9 ∗ cell c 10 ∗ cell c 11 ∗ cell c 12)

/-- Before the first grid point nothing is on the way. -/
def stZ (c : Dev nD) (fdy : Bf (F := F) c dyM) (fw : Bf (F := F) c wM) : sProp 𝕄 :=
  iprop(tok c dyM 1 fdy ∗ tok c dyM 2 fdy ∗ tok c wM 3 fw ∗ tok c wM 4 fw ∗ tok c wM 5 fw ∗ tok c wM 6 fw
    ∗ cell c 1 ∗ cell c 2 ∗ cell c 3 ∗ cell c 4 ∗ cell c 5 ∗ cell c 6
    ∗ any c dyin0 ∗ any c dyin1 ∗ any c wfi0 ∗ any c wfi1 ∗ any c wr0 ∗ any c wr1
    ∗ any c dq0 ∗ any c dq1 ∗ any c wfq0 ∗ any c wfq1 ∗ any c accM
    ∗ ∃ W, owes (c : Thread nD τ) 0 W)

/-- `h` at rest, and `h` on its way into the chip. -/
def hIdle (c : Dev nD) (fh : Bf (F := F) c hM) : sProp 𝕄 := iprop(pt c hM fh ∗ cell c 13 ∗ any c hvM)
def hFly (c : Dev nD) (fh : Bf (F := F) c hM) : sProp 𝕄 :=
  iprop((∃ fd : Bf (F := F) c hvM, Transfers.Flight countersEmb (c : Thread nD τ) (SemLoc.dma 13) () 245760
      iprop((hvM.view.loc (c : Thread nD τ) ↦{fullShare} View.write (Elt F) hvM.view fd (ReadAs.same.apply (hM.view.read (Elt F) fh)) Finset.univ)
        ∗ (hM.view.loc (c : Thread nD τ) ↦[hM.view.set]{fullShare} fh)))
    ∗ (hM.view.loc (c : Thread nD τ) ↦[Finset.univ \ hM.view.set]{fullShare} fh))

/-- A list of pieces agrees with `G` when its head and its tail do. -/
theorem piece_cons {S : Shape} {e : EltTy} {r : Rect S} {w : r.shape.Idx → Elt F e} {L : List (View.Piece (Elt F) S e)} {G : S.Idx → Elt F e}
    (h : ∀ x : r.shape.Idx, w x = G (r.emb x)) (hL : ∀ p ∈ L, ∀ x : p.1.shape.Idx, p.2 x = G (p.1.emb x)) :
    ∀ p ∈ ((⟨r, w⟩ : View.Piece (Elt F) S e) :: L), ∀ x : p.1.shape.Idx, p.2 x = G (p.1.emb x) :=
  List.forall_mem_cons.mpr ⟨h, hL⟩

end Cert.KernelIdeal.Hand

end
-- ==== Proof.State.lean ====
module

public import proofs.«01_k».proof.Proof.Core

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
/-! # The states without the record of the waits -/

/-- Separation associates. -/
theorem sep_assoc_eq (P Q R : sProp 𝕄) : iprop((P ∗ Q) ∗ R) = iprop(P ∗ Q ∗ R) :=
  BI.Entails.antisymm BI.sep_assoc BI.sep_assoc'

/-- The core's record of its waits, whatever it holds; it owes nothing. -/
def ow (c : Dev nD) : sProp 𝕄 := iprop(∃ W, owes (c : Thread nD τ) 0 W)

/-- What is held before an even grid point, apart from the record of the waits. -/
def stEh (c : Dev nD) (k : ℕ) (fdy : Bf (F := F) c dyM) (fw : Bf (F := F) c wM) : sProp 𝕄 :=
  iprop((∃ fd, dyFly c 2 dyin1 (k + 1) fd fdy) ∗ dyRest c 2 (k + 1) fdy ∗ tok c dyM 1 fdy
    ∗ (∃ fd, wfFly c 4 wfi1 (k + 1) fd fw) ∗ wfRest c 4 (k + 1) fw ∗ tok c wM 3 fw
    ∗ (∃ fd, wrFly c 5 wr0 k fd fw) ∗ wrRest c 5 k fw ∗ tok c wM 6 fw
    ∗ cell c 1 ∗ cell c 3 ∗ cell c 6
    ∗ any c dyin0 ∗ any c wfi0 ∗ any c wr1
    ∗ has c dq0 (qArr (dyT c fdy k)) ∗ any c dq1 ∗ has c wfq0 (qArr (wfT c fw k)) ∗ any c wfq1 ∗ has c accM (accAt c fdy fw k))
/-- The same beside the record of the waits. -/
theorem stE_eq (c : Dev nD) (k : ℕ) (fdy : Bf (F := F) c dyM) (fw : Bf (F := F) c wM) : stE c k fdy fw = iprop(stEh c k fdy fw ∗ ow (F := F) c) := by
  unfold stE stEh ow
  simp only [sep_assoc_eq]

/-- What is held before an odd grid point, apart from the record of the waits. -/
def stOh (c : Dev nD) (k : ℕ) (fdy : Bf (F := F) c dyM) (fw : Bf (F := F) c wM) : sProp 𝕄 :=
  iprop((∃ fd, dyFly c 1 dyin0 (k + 1) fd fdy) ∗ dyRest c 1 (k + 1) fdy ∗ tok c dyM 2 fdy
    ∗ (∃ fd, wfFly c 3 wfi0 (k + 1) fd fw) ∗ wfRest c 3 (k + 1) fw ∗ tok c wM 4 fw
    ∗ (∃ fd, wrFly c 6 wr1 k fd fw) ∗ wrRest c 6 k fw ∗ tok c wM 5 fw
    ∗ cell c 2 ∗ cell c 4 ∗ cell c 5
    ∗ any c dyin1 ∗ any c wfi1 ∗ any c wr0
    ∗ has c dq1 (qArr (dyT c fdy k)) ∗ any c dq0 ∗ has c wfq1 (qArr (wfT c fw k)) ∗ any c wfq0 ∗ has c accM (accAt c fdy fw k))
/-- The same beside the record of the waits. -/
theorem stO_eq (c : Dev nD) (k : ℕ) (fdy : Bf (F := F) c dyM) (fw : Bf (F := F) c wM) : stO c k fdy fw = iprop(stOh c k fdy fw ∗ ow (F := F) c) := by
  unfold stO stOh ow
  simp only [sep_assoc_eq]

/-- What is held before the last grid point, apart from the record of the waits. -/
def stLh (c : Dev nD) (fdy : Bf (F := F) c dyM) (fw : Bf (F := F) c wM) : sProp 𝕄 :=
  iprop(tok c dyM 1 fdy ∗ tok c dyM 2 fdy ∗ tok c wM 3 fw ∗ tok c wM 4 fw ∗ tok c wM 5 fw
    ∗ (∃ fd, wrFly c 6 wr1 9 fd fw) ∗ wrRest c 6 9 fw
    ∗ cell c 1 ∗ cell c 2 ∗ cell c 3 ∗ cell c 4 ∗ cell c 5
    ∗ any c dyin0 ∗ any c dyin1 ∗ any c wfi0 ∗ any c wfi1 ∗ any c wr0
    ∗ has c dq1 (qArr (dyT c fdy 9)) ∗ any c dq0 ∗ has c wfq1 (qArr (wfT c fw 9)) ∗ any c wfq0 ∗ has c accM (accAt c fdy fw 9))
/-- The same beside the record of the waits. -/
theorem stL_eq (c : Dev nD) (fdy : Bf (F := F) c dyM) (fw : Bf (F := F) c wM) : stL c fdy fw = iprop(stLh c fdy fw ∗ ow (F := F) c) := by
  unfold stL stLh ow
  simp only [sep_assoc_eq]

/-- What is held before the first grid point, apart from the record of the waits. -/
def stZh (c : Dev nD) (fdy : Bf (F := F) c dyM) (fw : Bf (F := F) c wM) : sProp 𝕄 :=
  iprop(tok c dyM 1 fdy ∗ tok c dyM 2 fdy ∗ tok c wM 3 fw ∗ tok c wM 4 fw ∗ tok c wM 5 fw ∗ tok c wM 6 fw
    ∗ cell c 1 ∗ cell c 2 ∗ cell c 3 ∗ cell c 4 ∗ cell c 5 ∗ cell c 6
    ∗ any c dyin0 ∗ any c dyin1 ∗ any c wfi0 ∗ any c wfi1 ∗ any c wr0 ∗ any c wr1
    ∗ any c dq0 ∗ any c dq1 ∗ any c wfq0 ∗ any c wfq1 ∗ any c accM)
/-- The same beside the record of the waits. -/
theorem stZ_eq (c : Dev nD) (fdy : Bf (F := F) c dyM) (fw : Bf (F := F) c wM) : stZ c fdy fw = iprop(stZh c fdy fw ∗ ow (F := F) c) := by
  unfold stZ stZh ow
  simp only [sep_assoc_eq]

/-! # The branches' conditions, by the grid point -/

theorem blk_at (t : Fin cfg0.N) : blk (grid0.coords t) = t.val := by
  rw [blk_eq]; revert t; decide
theorem cond1_at : ∀ t : Fin cfg0.N, k0_cond1 (grid0.coords t) = 1#1 ↔ t.val = 0 := by decide
theorem cond2_at : ∀ t : Fin cfg0.N, k0_cond2 (grid0.coords t) = 1#1 ↔ t.val % 2 = 0 := by decide
theorem cond3_at : ∀ t : Fin cfg0.N, k0_cond3 (grid0.coords t) = 1#1 ↔ t.val < 8 := by decide
theorem cond4_at : ∀ t : Fin cfg0.N, k0_cond4 (grid0.coords t) = 1#1 ↔ (t.val % 2 = 1 ∧ t.val < 9) := by decide
theorem cond5_at : ∀ t : Fin cfg0.N, k0_cond5 (grid0.coords t) = 1#1 ↔ t.val < 8 := by decide
theorem cond6_at : ∀ t : Fin cfg0.N, k0_cond6 (grid0.coords t) = 1#1 ↔ t.val = 9 := by decide

end Cert.KernelIdeal.Hand

end
-- ==== Proof.StepA.lean ====
module

public import proofs.«01_k».proof.Proof.Core

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- Writing zeros over the whole accumulator leaves zeros. -/
theorem acc_zero (f : accM.view.ty.Contents (Elt F)) :
    accM.view.read (Elt F) (accM.view.writes (Elt F) f
      [⟨Rect.unit (s := S1536x2560) ![0, 0] S1536x2560.size inb_S1536x2560_S1536x2560_0_0, (k0_pay4 (F := F) : Vec F S1536x2560 .f32)⟩]) = k0_pay4 (F := F) := by
  refine funext fun y => ?_
  refine View.read_writes_apply_of_pieces accM.view f (k0_pay4 (F := F) : Vec F S1536x2560 .f32) _ ?_ y ?_
  · exact List.forall_mem_cons.mpr ⟨fun _ => rfl, List.forall_mem_nil _⟩
  · exact View.cover_of_tiledL _ ![1536, 2560] (by sl_kernel_rfl) y

/-- A unit quantised out of a gradient block that row copies filled. -/
theorem dq_cov (X : Vec F S1536x1024 .bf16) (L : List (View.Piece (Elt F) S1536x1024 .bf16))
    (hX : dyin0.view.read (Elt F) (dyin0.view.writes (Elt F) dyin0.view.junk L) = X) (off : Fin 2 → ℕ) (inb) (h0 : off 0 % 256 = 0) (h1 : off 1 % 512 = 0)
    (P : Vec F S256x512 .bf16)
    (hP : P = k0_pay5 (dyin0.view.readCov L (Rect.unit (s := S1536x1024) off S256x512.size inb).toLoadRect)) :
    ∀ x : (Rect.unit (s := S1536x1024) off S256x512.size inb).shape.Idx,
      P x = qArr X ((Rect.unit (s := S1536x1024) off S256x512.size inb).emb x) := by
  subst hX
  exact q_ok _ off inb h0 h1 P hP

/-- A row block of the first gradient block, read from the array, is those rows of the block. -/
theorem dyRow (c : Dev nD) (fdy : Bf (F := F) c dyM) (a : ℕ)
    (inb : ∀ k, (![a, 0] : Fin 2 → ℕ) k + S256x1024.size k ≤ S1536x10240.size k)
    (inb' : ∀ k, (![a, 0] : Fin 2 → ℕ) k + S256x1024.size k ≤ S1536x1024.size k) (hs) (P : Vec F S256x1024 .bf16)
    (hP : P = ReadAs.same.apply (View.read (Elt F) (dyM.slice (Rect.unit ![a, 0] S256x1024.size inb) hs).view fdy)) :
    ∀ x : (Rect.unit (s := S1536x1024) ![a, 0] S256x1024.size inb').shape.Idx,
      P x = dyT c fdy 0 ((Rect.unit (s := S1536x1024) ![a, 0] S256x1024.size inb').emb x) := by
  subst hP
  intro x
  have e : (dyM.slice (Rect.unit ![a, 0] S256x1024.size inb) hs).view.emb x
      = (dyB 0).view.emb ((Rect.unit (s := S1536x1024) ![a, 0] S256x1024.size inb').emb x) := by
    refine funext fun (k : Fin 2) => Fin.ext ?_
    match k with
    | 0 =>
      have h1 := Rect.idx_unit_val (s := S1536x10240) ![a, 0] S256x1024.size inb x 0
      have h2 := Rect.idx_unit_val (s := S1536x1024) ![a, 0] S256x1024.size inb' x 0
      have h3 := Rect.idx_unit_val (s := S1536x10240) ![0, 1024 * (0 % 10)] S1536x1024.size (dyB_inb 0) ((Rect.unit (s := S1536x1024) ![a, 0] S256x1024.size inb').emb x) 0
      exact h1.trans (h3.trans (by show 0 + _ = _; rw [Nat.zero_add]; exact h2)).symm
    | 1 =>
      have h1 := Rect.idx_unit_val (s := S1536x10240) ![a, 0] S256x1024.size inb x 1
      have h2 := Rect.idx_unit_val (s := S1536x1024) ![a, 0] S256x1024.size inb' x 1
      have h3 := Rect.idx_unit_val (s := S1536x10240) ![0, 1024 * (0 % 10)] S1536x1024.size (dyB_inb 0) ((Rect.unit (s := S1536x1024) ![a, 0] S256x1024.size inb').emb x) 1
      exact h1.trans (h3.trans (by show 0 + _ = _; rw [Nat.zero_add]; exact h2)).symm
  exact congrArg (fun z => fdy z) e

set_option maxHeartbeats 600000 in
set_option sl_exec.dmaWindow true in
/-- The first grid point's opening takes the state at rest to the state before an even point. -/
theorem stepA (c : Dev nD) (i : grid0.Coords) (st : Memref sig .tc .vmem S1x2560 .f32) (hst : st.IsWhole)
    (rest : Prog (TpuEff nD τ sig (Elt F) Λ₀ .tc) PUnit)
    (h1 : k0_cond1 i = 1#1)
    (fdy : Bf (F := F) c dyM) (fw : Bf (F := F) c wM) (fh : Bf (F := F) c hM) (K : PUnit → sProp 𝕄) :
    iprop(stZ c fdy fw ∗ rowToks c fdy ∗ hIdle c fh
      ∗ (stE c 0 fdy fw ∗ rowToks c fdy ∗ hFly c fh -∗ wp frame (wpE (defs₀ (F := F)) Variants.none c none) Set.univ rest K))
    ⊢ wp frame (wpE (defs₀ (F := F)) Variants.none c none) Set.univ (progA (F := F) i st hst rest) K := by
  unfold progA partA stZ rowToks hIdle
  iintro ⟨⟨Ht1, Ht2, Hw3, Hw4, Hw5, Hw6, Hc1, Hc2, Hc3, Hc4, Hc5, Hc6, ⟨%fdy0, Hdy0⟩, ⟨%fdy1, Hdy1⟩, ⟨%fwfi0, Hwfi0⟩, ⟨%fwfi1, Hwfi1⟩, ⟨%fwr0, Hwr0⟩, ⟨%fwr1, Hwr1⟩, ⟨%fdq0, Hdq0⟩, ⟨%fdq1, Hdq1⟩, ⟨%fwfq0, Hwfq0⟩, ⟨%fwfq1, Hwfq1⟩, ⟨%facc, Hacc⟩, ⟨%W, HO⟩⟩, ⟨Ht7, Ht8, Ht9, Ht10, Ht11, Ht12, Hc7, Hc8, Hc9, Hc10, Hc11, Hc12⟩, ⟨Hh, Hc13, ⟨%fhv, Hhv⟩⟩, HK⟩
  sl_exec
  have hX : dyin0.view.read (Elt F) (dyin0.view.writes (Elt F) dyin0.view.junk
      [⟨Rect.unit ![1280, 0] S256x1024.size inb_S1536x1024_S256x1024_1280_0, stepA.sl.dma0_5 c fdy⟩,
       ⟨Rect.unit ![1024, 0] S256x1024.size inb_S1536x1024_S256x1024_1024_0, stepA.sl.dma0_4 c fdy⟩,
       ⟨Rect.unit ![768, 0] S256x1024.size inb_S1536x1024_S256x1024_768_0, stepA.sl.dma0_3 c fdy⟩,
       ⟨Rect.unit ![512, 0] S256x1024.size inb_S1536x1024_S256x1024_512_0, stepA.sl.dma0_2 c fdy⟩,
       ⟨Rect.unit ![256, 0] S256x1024.size inb_S1536x1024_S256x1024_256_0, stepA.sl.dma0_1 c fdy⟩,
       ⟨Rect.unit ![0, 0] S256x1024.size inb_S1536x1024_S256x1024_0_0, stepA.sl.dma0 c fdy⟩]) = dyT c fdy 0 := by
    refine dq_read _ _ _ _ ?_ (View.cover_of_tiledL _ ![256, 1024] (by sl_kernel_rfl))
    refine piece_cons (dyRow c fdy 1280 inb_S1536x10240_S256x1024_1280_0 inb_S1536x1024_S256x1024_1280_0 (fun _ => rfl) _ rfl) ?_
    refine piece_cons (dyRow c fdy 1024 inb_S1536x10240_S256x1024_1024_0 inb_S1536x1024_S256x1024_1024_0 (fun _ => rfl) _ rfl) ?_
    refine piece_cons (dyRow c fdy 768 inb_S1536x10240_S256x1024_768_0 inb_S1536x1024_S256x1024_768_0 (fun _ => rfl) _ rfl) ?_
    refine piece_cons (dyRow c fdy 512 inb_S1536x10240_S256x1024_512_0 inb_S1536x1024_S256x1024_512_0 (fun _ => rfl) _ rfl) ?_
    refine piece_cons (dyRow c fdy 256 inb_S1536x10240_S256x1024_256_0 inb_S1536x1024_S256x1024_256_0 (fun _ => rfl) _ rfl) ?_
    refine piece_cons (dyRow c fdy 0 inb_S1536x10240_S256x1024_0_0 inb_S1536x1024_S256x1024_0_0 (fun _ => rfl) _ rfl) ?_
    exact List.forall_mem_nil _
  have hw0 : wfi0.view.read (Elt F) (View.write (Elt F) wfi0.view fwfi0 (stepA.sl.dma0_6 c fw) Finset.univ) = wfT c fw 0 :=
    View.read_write_univ _ _
  iapply HK
  isplitr [Ht7 Ht8 Ht9 Ht10 Ht11 Ht12 Hc7 Hc8 Hc9 Hc10 Hc11 Hc12 Hc13 Hh]
  · unfold stE
    isplitl [Hc2]
    · iexists fdy1; iexact Hc2
    isplitl [Ht2]
    · iexact Ht2
    isplitl [Ht1]
    · iexact Ht1
    isplitl [Hc4]
    · iexists fwfi1; iexact Hc4
    isplitl [Hw4]
    · iexact Hw4
    isplitl [Hw3]
    · iexact Hw3
    isplitl [Hc5]
    · iexists fwr0; iexact Hc5
    isplitl [Hw5]
    · iexact Hw5
    isplitl [Hw6]
    · iexact Hw6
    isplitl [Hc1]
    · iexact Hc1
    isplitl [Hc3]
    · iexact Hc3
    isplitl [Hc6]
    · iexact Hc6
    isplitl [Hdy0]
    · iexists _; iexact Hdy0
    isplitl [Hwfi0]
    · iexists _; iexact Hwfi0
    isplitl [Hwr1]
    · iexists _; iexact Hwr1
    isplitl [Hdq0]
    · iexists _
      isplitl [Hdq0]
      · iexact Hdq0
      · ipureintro
        refine dq_read _ _ _ _ ?_ (View.cover_of_tiledL _ ![256, 512] (by sl_kernel_rfl))
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        refine piece_cons (dq_cov _ _ hX _ _ (by decide) (by decide) _ rfl) ?_
        exact List.forall_mem_nil _
    isplitl [Hdq1]
    · iexists _; iexact Hdq1
    isplitl [Hwfq0]
    · iexists _
      isplitl [Hwfq0]
      · iexact Hwfq0
      · ipureintro
        rw [← hw0]
        refine wq_read _ _ _ _ ?_ (View.cover_of_tiledL _ ![256, 512] (by sl_kernel_rfl))
        repeat' (first | exact List.forall_mem_nil _ | refine piece_cons (q_ok _ _ _ (by decide) (by decide) _ rfl) ?_)
    isplitl [Hwfq1]
    · iexists _; iexact Hwfq1
    isplitl [Hacc]
    · iexists _
      isplitl [Hacc]
      · iexact Hacc
      · ipureintro
        exact acc_zero _
    iexists _; iexact HO
  isplitr [Hc13 Hh]
  · isplitl [Ht7]
    · iexact Ht7
    isplitl [Ht8]
    · iexact Ht8
    isplitl [Ht9]
    · iexact Ht9
    isplitl [Ht10]
    · iexact Ht10
    isplitl [Ht11]
    · iexact Ht11
    isplitl [Ht12]
    · iexact Ht12
    isplitl [Hc7]
    · iexact Hc7
    isplitl [Hc8]
    · iexact Hc8
    isplitl [Hc9]
    · iexact Hc9
    isplitl [Hc10]
    · iexact Hc10
    isplitl [Hc11]
    · iexact Hc11
    iexact Hc12
  unfold hFly
  isplitl [Hc13]
  · iexists fhv; iexact Hc13
  iexact Hh

end Cert.KernelIdeal.Hand

end
-- ==== Proof.WrTile.lean ====
module

public import proofs.«01_k».proof.Proof.Core

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! # Weight rows read back after their units were quantised in place -/

/-- The written pieces reach every entry of the 256×512 unit at `(a, b)`. -/
def Has (L : List (View.Piece (Elt F) S2048x1024 .bf16)) (a b : ℕ) : Prop :=
  ∀ y : S2048x1024.Idx, a ≤ (y 0).val → (y 0).val < a + 256 → b ≤ (y 1).val → (y 1).val < b + 512 → ∃ p ∈ L, y ∈ p.1.set

theorem has_here {a b : ℕ} {inb : ∀ k, (![a, b] : Fin 2 → ℕ) k + S256x512.size k ≤ S2048x1024.size k}
    {w : (Rect.unit (s := S2048x1024) ![a, b] S256x512.size inb).shape.Idx → Elt F .bf16} {L : List (View.Piece (Elt F) S2048x1024 .bf16)} :
    Has (⟨Rect.unit (s := S2048x1024) ![a, b] S256x512.size inb, w⟩ :: L) a b := by
  intro y h0 h1 h2 h3
  refine ⟨_, List.mem_cons_self, ?_⟩
  show y ∈ (Rect.unit (s := S2048x1024) ![a, b] S256x512.size inb).set
  rw [Rect.mem_set_unit]
  intro (k : Fin 2)
  match k with
  | 0 => exact ⟨h0, h1⟩
  | 1 => exact ⟨h2, h3⟩

theorem has_there {a b : ℕ} {p : View.Piece (Elt F) S2048x1024 .bf16} {L : List (View.Piece (Elt F) S2048x1024 .bf16)} (h : Has L a b) :
    Has (p :: L) a b := by
  intro y h0 h1 h2 h3
  obtain ⟨q, hq, hy⟩ := h y h0 h1 h2 h3
  exact ⟨q, List.mem_cons_of_mem _ hq, hy⟩

/-- Rows whose four units were written read as the quantised rows. -/
theorem wr_rows (v : View sig .tc .vmem S2048x1024 .bf16) (W : Vec F S2048x1024 .bf16) (L : List (View.Piece (Elt F) S2048x1024 .bf16)) (a : ℕ)
    (inb : ∀ k, (![a, 0] : Fin 2 → ℕ) k + S512x1024.size k ≤ S2048x1024.size k)
    (hL : ∀ p ∈ L, ∀ x : p.1.shape.Idx, p.2 x = qArr W (p.1.emb x))
    (h00 : Has L a 0) (h01 : Has L a 512) (h10 : Has L (a + 256) 0) (h11 : Has L (a + 256) 512) :
    v.readCov L (Rect.unit (s := S2048x1024) ![a, 0] S512x1024.size inb).toLoadRect
      = View.ld (qArr W) (Rect.unit (s := S2048x1024) ![a, 0] S512x1024.size inb) := by
  funext x
  have e0 : (((Rect.unit (s := S2048x1024) ![a, 0] S512x1024.size inb).emb x) 0).val = a + (x 0).val := Rect.idx_unit_val _ _ inb x 0
  have e1 : (((Rect.unit (s := S2048x1024) ![a, 0] S512x1024.size inb).emb x) 1).val = 0 + (x 1).val := Rect.idx_unit_val _ _ inb x 1
  have b0 : (x 0).val < 512 := (x 0).isLt
  have b1 : (x 1).val < 1024 := (x 1).isLt
  refine View.read_writes_apply_of_pieces v v.junk (qArr W) L hL ((Rect.unit (s := S2048x1024) ![a, 0] S512x1024.size inb).emb x) ?_
  by_cases c0 : (x 0).val < 256 <;> by_cases c1 : (x 1).val < 512
  · exact h00 _ (by omega) (by omega) (by omega) (by omega)
  · exact h01 _ (by omega) (by omega) (by omega) (by omega)
  · exact h10 _ (by omega) (by omega) (by omega) (by omega)
  · exact h11 _ (by omega) (by omega) (by omega) (by omega)

/-- A tile's sum whose weight rows were quantised in place. -/
theorem tile_okR (dq : Vec F S1536x1024 .bf16) (wf : Vec F S512x1024 .bf16) (W : Vec F S2048x1024 .bf16) (X : Vec F S1536x2560 .f32)
    (m n : ℕ) (hm : m < 3) (hn : n < 5) (hn1 : 0 < n) (a b r : ℕ) (ha : a = 512 * m) (hb : b = 512 * n) (hr : r + 512 = 512 * n)
    (inb : ∀ k, (![a, b] : Fin 2 → ℕ) k + S512x512.size k ≤ S1536x2560.size k)
    (inbR : ∀ k, (![r, 0] : Fin 2 → ℕ) k + S512x1024.size k ≤ S2048x1024.size k) (v : View sig .tc .vmem S2048x1024 .bf16)
    (L : List (View.Piece (Elt F) S2048x1024 .bf16)) (P : Vec F S512x512 .f32)
    (hP : P = k0_pay70 (v.readCov L (Rect.unit (s := S2048x1024) ![r, 0] S512x1024.size inbR).toLoadRect) (tileOf X m n) (rowsOf dq m))
    (hL : ∀ p ∈ L, ∀ x : p.1.shape.Idx, p.2 x = qArr W (p.1.emb x))
    (h00 : Has L r 0) (h01 : Has L r 512) (h10 : Has L (r + 256) 0) (h11 : Has L (r + 256) 512) :
    ∀ x : (Rect.unit (s := S1536x2560) ![a, b] S512x512.size inb).shape.Idx,
      P x = stepAcc dq wf (qArr W) X ((Rect.unit (s := S1536x2560) ![a, b] S512x512.size inb).emb x) := by
  refine tile_ok dq wf (qArr W) X m n hm hn a b ha hb inb P ?_
  rw [hP, wr_rows v W L r inbR hL h00 h01 h10 h11]
  have e : View.ld (qArr W) (Rect.unit (s := S2048x1024) ![r, 0] S512x1024.size inbR) = wTile wf (qArr W) n := by
    have hr' : r = 512 * ((n - 1) % 4) := by omega
    subst hr'
    unfold wTile
    rw [if_neg (by omega)]
  rw [e]

end Cert.KernelIdeal.Hand

end
-- ==== Proof.StepE.lean ====
module

public import proofs.«01_k».proof.Proof.WrTile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

set_option maxHeartbeats 2000000 in
set_option sl_exec.dmaWindow true in
/-- An even grid point before the last two blocks takes the state before it to the state before the next. -/
theorem stepB (c : Dev nD) (i : grid0.Coords) (st : Memref sig .tc .vmem S1x2560 .f32) (hst : st.IsWhole)
    (rest : Prog (TpuEff nD τ sig (Elt F) Λ₀ .tc) PUnit)
    (h2 : k0_cond2 i = 1#1) (h3 : k0_cond3 i = 1#1) (hk : blk i + 2 < 10) (hk1 : blk i + 1 < 10)
    (fdy : Bf (F := F) c dyM) (fw : Bf (F := F) c wM) (K : PUnit → sProp 𝕄) :
    iprop(stE c (blk i) fdy fw ∗ (stO c (blk i + 1) fdy fw -∗ wp frame (wpE (defs₀ (F := F)) Variants.none c none) Set.univ rest K))
    ⊢ wp frame (wpE (defs₀ (F := F)) Variants.none c none) Set.univ (progB (F := F) i st hst rest) K := by
  unfold progB partB stE
  iintro ⟨⟨⟨%fdy1, Hf2⟩, Hr2, Ht1, ⟨%fwfi1, Hf4⟩, Hr4, Ht3, ⟨%fwr0, Hf5⟩, Hr5, Ht6, Hc1, Hc3, Hc6, ⟨%fdy0, Hdy0⟩, ⟨%fwfi0, Hwfi0⟩, ⟨%fwr1, Hwr1⟩, ⟨%fdq0, Hdq0, %hdq0⟩, ⟨%fdq1, Hdq1⟩, ⟨%fwfq0, Hwfq0, %hwfq0⟩, ⟨%fwfq1, Hwfq1⟩, ⟨%facc, Hacc, %hacc⟩, ⟨%W, HO⟩⟩, HK⟩
  sl_exec
  have hw : wr0.view.read (Elt F) (View.write (Elt F) wr0.view fwr0 (ReadAs.same.apply (View.read (Elt F) (wrB (blk i)).view fw)) Finset.univ) = wrT c fw (blk i) :=
    View.read_write_univ _ _
  have hd1 : dyin1.view.read (Elt F) (View.write (Elt F) dyin1.view fdy1 (ReadAs.same.apply (View.read (Elt F) (dyB (blk i + 1)).view fdy)) Finset.univ) = dyT c fdy (blk i + 1) :=
    View.read_write_univ _ _
  have hw1 : wfi1.view.read (Elt F) (View.write (Elt F) wfi1.view fwfi1 (ReadAs.same.apply (View.read (Elt F) (wfB (blk i + 1)).view fw)) Finset.univ) = wfT c fw (blk i + 1) :=
    View.read_write_univ _ _
  iapply HK
  unfold stO
  isplitl [Hc1]
  · iexists fdy0; iexact Hc1
  isplitl [Ht1]
  · iexact Ht1
  isplitl [Hr2]
  · iexact Hr2
  isplitl [Hc3]
  · iexists fwfi0; iexact Hc3
  isplitl [Ht3]
  · iexact Ht3
  isplitl [Hr4]
  · iexact Hr4
  isplitl [Hc6]
  · iexists fwr1; iexact Hc6
  isplitl [Ht6]
  · iexact Ht6
  isplitl [Hr5]
  · iexact Hr5
  isplitl [Hf2]
  · iexact Hf2
  isplitl [Hf4]
  · iexact Hf4
  isplitl [Hf5]
  · iexact Hf5
  isplitl [Hf2_dst]
  · iexists _; iexact Hf2_dst
  isplitl [Hf4_dst]
  · iexists _; iexact Hf4_dst
  isplitl [Hf5_dst]
  · iexists _; iexact Hf5_dst
  isplitl [Hdq1]
  · iexists _
    isplitl [Hdq1]
    · iexact Hdq1
    · ipureintro
      rw [← hd1]
      refine dq_read _ _ _ _ ?_ (View.cover_of_tiledL _ ![256, 512] (by sl_kernel_rfl))
      repeat' (first | exact List.forall_mem_nil _ | refine List.forall_mem_cons.mpr ⟨q_ok _ _ _ (by decide) (by decide) _ rfl, ?_⟩)
  isplitl [Hdq0]
  · iexists _; iexact Hdq0
  isplitl [Hwfq1]
  · iexists _
    isplitl [Hwfq1]
    · iexact Hwfq1
    · ipureintro
      rw [← hw1]
      refine wq_read _ _ _ _ ?_ (View.cover_of_tiledL _ ![256, 512] (by sl_kernel_rfl))
      repeat' (first | exact List.forall_mem_nil _ | refine List.forall_mem_cons.mpr ⟨q_ok _ _ _ (by decide) (by decide) _ rfl, ?_⟩)
  isplitl [Hwfq0]
  · iexists _; iexact Hwfq0
  isplitl [Hacc]
  · iexists _
    isplitl [Hacc]
    · iexact Hacc
    · ipureintro
      show _ = stepAcc (qArr (dyT c fdy (blk i))) (qArr (wfT c fw (blk i))) (qArr (wrT c fw (blk i))) (accAt c fdy fw (blk i))
      rw [← hdq0, ← hwfq0, ← hw, ← hacc]
      refine acc_read _ _ _ _ _ _ _ ?_ (View.cover_of_tiledL _ ![512, 512] (by sl_kernel_rfl))
      refine List.forall_mem_cons.mpr ⟨tile_okR _ _ _ _ 2 4 (by decide) (by decide) (by decide) 1024 2048 1536 rfl rfl rfl inb_S1536x2560_S512x512_1024_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 4 (by decide) (by decide) (by decide) 512 2048 1536 rfl rfl rfl inb_S1536x2560_S512x512_512_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 4 (by decide) (by decide) (by decide) 0 2048 1536 rfl rfl rfl inb_S1536x2560_S512x512_0_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 3 (by decide) (by decide) (by decide) 1024 1536 1024 rfl rfl rfl inb_S1536x2560_S512x512_1024_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 3 (by decide) (by decide) (by decide) 512 1536 1024 rfl rfl rfl inb_S1536x2560_S512x512_512_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 3 (by decide) (by decide) (by decide) 0 1536 1024 rfl rfl rfl inb_S1536x2560_S512x512_0_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 2 (by decide) (by decide) (by decide) 1024 1024 512 rfl rfl rfl inb_S1536x2560_S512x512_1024_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 2 (by decide) (by decide) (by decide) 512 1024 512 rfl rfl rfl inb_S1536x2560_S512x512_512_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 2 (by decide) (by decide) (by decide) 0 1024 512 rfl rfl rfl inb_S1536x2560_S512x512_0_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 1 (by decide) (by decide) (by decide) 1024 512 0 rfl rfl rfl inb_S1536x2560_S512x512_1024_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 1 (by decide) (by decide) (by decide) 512 512 0 rfl rfl rfl inb_S1536x2560_S512x512_512_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 1 (by decide) (by decide) (by decide) 0 512 0 rfl rfl rfl inb_S1536x2560_S512x512_0_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_ok _ _ _ _ 2 0 (by decide) (by decide) 1024 0 rfl rfl inb_S1536x2560_S512x512_1024_0 _ rfl, ?_⟩
      refine List.forall_mem_cons.mpr ⟨tile_ok _ _ _ _ 1 0 (by decide) (by decide) 512 0 rfl rfl inb_S1536x2560_S512x512_512_0 _ rfl, ?_⟩
      refine List.forall_mem_cons.mpr ⟨tile_ok _ _ _ _ 0 0 (by decide) (by decide) 0 0 rfl rfl inb_S1536x2560_S512x512_0_0 _ rfl, ?_⟩
      exact List.forall_mem_nil _
  iexists _; iexact HO

end Cert.KernelIdeal.Hand

end
-- ==== Proof.StepL.lean ====
module

public import proofs.«01_k».proof.Proof.WrTile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

set_option maxHeartbeats 2000000 in
set_option sl_exec.dmaWindow true in
/-- The last even grid point takes the state before it to the state before the last one. -/
theorem stepB8 (c : Dev nD) (i : grid0.Coords) (st : Memref sig .tc .vmem S1x2560 .f32) (hst : st.IsWhole)
    (rest : Prog (TpuEff nD τ sig (Elt F) Λ₀ .tc) PUnit)
    (h2 : k0_cond2 i = 1#1) (h3 : ¬ k0_cond3 i = 1#1) (hk8 : blk i = 8) (hk1 : blk i + 1 < 10)
    (fdy : Bf (F := F) c dyM) (fw : Bf (F := F) c wM) (K : PUnit → sProp 𝕄) :
    iprop(stE c (blk i) fdy fw ∗ (stL c fdy fw -∗ wp frame (wpE (defs₀ (F := F)) Variants.none c none) Set.univ rest K))
    ⊢ wp frame (wpE (defs₀ (F := F)) Variants.none c none) Set.univ (progB (F := F) i st hst rest) K := by
  unfold progB partB stE
  iintro ⟨⟨⟨%fdy1, Hf2⟩, Hr2, Ht1, ⟨%fwfi1, Hf4⟩, Hr4, Ht3, ⟨%fwr0, Hf5⟩, Hr5, Ht6, Hc1, Hc3, Hc6, ⟨%fdy0, Hdy0⟩, ⟨%fwfi0, Hwfi0⟩, ⟨%fwr1, Hwr1⟩, ⟨%fdq0, Hdq0, %hdq0⟩, ⟨%fdq1, Hdq1⟩, ⟨%fwfq0, Hwfq0, %hwfq0⟩, ⟨%fwfq1, Hwfq1⟩, ⟨%facc, Hacc, %hacc⟩, ⟨%W, HO⟩⟩, HK⟩
  sl_exec
  have hw : wr0.view.read (Elt F) (View.write (Elt F) wr0.view fwr0 (ReadAs.same.apply (View.read (Elt F) (wrB (blk i)).view fw)) Finset.univ) = wrT c fw (blk i) :=
    View.read_write_univ _ _
  have hd1 : dyin1.view.read (Elt F) (View.write (Elt F) dyin1.view fdy1 (ReadAs.same.apply (View.read (Elt F) (dyB (blk i + 1)).view fdy)) Finset.univ) = dyT c fdy (blk i + 1) :=
    View.read_write_univ _ _
  have hw1 : wfi1.view.read (Elt F) (View.write (Elt F) wfi1.view fwfi1 (ReadAs.same.apply (View.read (Elt F) (wfB (blk i + 1)).view fw)) Finset.univ) = wfT c fw (blk i + 1) :=
    View.read_write_univ _ _
  have e9 : (9 : ℕ) = blk i + 1 := by omega
  iapply HK
  unfold stL
  rw [e9]
  isplitl [Ht1]
  · iexact Ht1
  isplitl [Hr2]
  · iexact Hr2
  isplitl [Ht3]
  · iexact Ht3
  isplitl [Hr4]
  · iexact Hr4
  isplitl [Hr5]
  · iexact Hr5
  isplitl [Hc6]
  · iexists fwr1; iexact Hc6
  isplitl [Ht6]
  · iexact Ht6
  isplitl [Hc1]
  · iexact Hc1
  isplitl [Hf2]
  · iexact Hf2
  isplitl [Hc3]
  · iexact Hc3
  isplitl [Hf4]
  · iexact Hf4
  isplitl [Hf5]
  · iexact Hf5
  isplitl [Hdy0]
  · iexists _; iexact Hdy0
  isplitl [Hf2_dst]
  · iexists _; iexact Hf2_dst
  isplitl [Hwfi0]
  · iexists _; iexact Hwfi0
  isplitl [Hf4_dst]
  · iexists _; iexact Hf4_dst
  isplitl [Hf5_dst]
  · iexists _; iexact Hf5_dst
  isplitl [Hdq1]
  · iexists _
    isplitl [Hdq1]
    · iexact Hdq1
    · ipureintro
      rw [← hd1]
      refine dq_read _ _ _ _ ?_ (View.cover_of_tiledL _ ![256, 512] (by sl_kernel_rfl))
      repeat' (first | exact List.forall_mem_nil _ | refine List.forall_mem_cons.mpr ⟨q_ok _ _ _ (by decide) (by decide) _ rfl, ?_⟩)
  isplitl [Hdq0]
  · iexists _; iexact Hdq0
  isplitl [Hwfq1]
  · iexists _
    isplitl [Hwfq1]
    · iexact Hwfq1
    · ipureintro
      rw [← hw1]
      refine wq_read _ _ _ _ ?_ (View.cover_of_tiledL _ ![256, 512] (by sl_kernel_rfl))
      repeat' (first | exact List.forall_mem_nil _ | refine List.forall_mem_cons.mpr ⟨q_ok _ _ _ (by decide) (by decide) _ rfl, ?_⟩)
  isplitl [Hwfq0]
  · iexists _; iexact Hwfq0
  isplitl [Hacc]
  · iexists _
    isplitl [Hacc]
    · iexact Hacc
    · ipureintro
      show _ = stepAcc (qArr (dyT c fdy (blk i))) (qArr (wfT c fw (blk i))) (qArr (wrT c fw (blk i))) (accAt c fdy fw (blk i))
      rw [← hdq0, ← hwfq0, ← hw, ← hacc]
      refine acc_read _ _ _ _ _ _ _ ?_ (View.cover_of_tiledL _ ![512, 512] (by sl_kernel_rfl))
      refine List.forall_mem_cons.mpr ⟨tile_okR _ _ _ _ 2 4 (by decide) (by decide) (by decide) 1024 2048 1536 rfl rfl rfl inb_S1536x2560_S512x512_1024_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 4 (by decide) (by decide) (by decide) 512 2048 1536 rfl rfl rfl inb_S1536x2560_S512x512_512_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 4 (by decide) (by decide) (by decide) 0 2048 1536 rfl rfl rfl inb_S1536x2560_S512x512_0_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 3 (by decide) (by decide) (by decide) 1024 1536 1024 rfl rfl rfl inb_S1536x2560_S512x512_1024_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 3 (by decide) (by decide) (by decide) 512 1536 1024 rfl rfl rfl inb_S1536x2560_S512x512_512_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 3 (by decide) (by decide) (by decide) 0 1536 1024 rfl rfl rfl inb_S1536x2560_S512x512_0_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 2 (by decide) (by decide) (by decide) 1024 1024 512 rfl rfl rfl inb_S1536x2560_S512x512_1024_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 2 (by decide) (by decide) (by decide) 512 1024 512 rfl rfl rfl inb_S1536x2560_S512x512_512_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 2 (by decide) (by decide) (by decide) 0 1024 512 rfl rfl rfl inb_S1536x2560_S512x512_0_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 1 (by decide) (by decide) (by decide) 1024 512 0 rfl rfl rfl inb_S1536x2560_S512x512_1024_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 1 (by decide) (by decide) (by decide) 512 512 0 rfl rfl rfl inb_S1536x2560_S512x512_512_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 1 (by decide) (by decide) (by decide) 0 512 0 rfl rfl rfl inb_S1536x2560_S512x512_0_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_ok _ _ _ _ 2 0 (by decide) (by decide) 1024 0 rfl rfl inb_S1536x2560_S512x512_1024_0 _ rfl, ?_⟩
      refine List.forall_mem_cons.mpr ⟨tile_ok _ _ _ _ 1 0 (by decide) (by decide) 512 0 rfl rfl inb_S1536x2560_S512x512_512_0 _ rfl, ?_⟩
      refine List.forall_mem_cons.mpr ⟨tile_ok _ _ _ _ 0 0 (by decide) (by decide) 0 0 rfl rfl inb_S1536x2560_S512x512_0_0 _ rfl, ?_⟩
      exact List.forall_mem_nil _
  iexists _; iexact HO

end Cert.KernelIdeal.Hand

end
-- ==== Proof.StepO.lean ====
module

public import proofs.«01_k».proof.Proof.WrTile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

set_option maxHeartbeats 2000000 in
set_option sl_exec.dmaWindow true in
/-- An odd grid point before the last one takes the state before it to the state before the next. -/
theorem stepC (c : Dev nD) (i : grid0.Coords) (st : Memref sig .tc .vmem S1x2560 .f32) (hst : st.IsWhole)
    (rest : Prog (TpuEff nD τ sig (Elt F) Λ₀ .tc) PUnit)
    (h2 : k0_cond4 i = 1#1) (h3 : k0_cond5 i = 1#1) (hk : blk i + 2 < 10) (hk1 : blk i + 1 < 10)
    (fdy : Bf (F := F) c dyM) (fw : Bf (F := F) c wM) (K : PUnit → sProp 𝕄) :
    iprop(stO c (blk i) fdy fw ∗ (stE c (blk i + 1) fdy fw -∗ wp frame (wpE (defs₀ (F := F)) Variants.none c none) Set.univ rest K))
    ⊢ wp frame (wpE (defs₀ (F := F)) Variants.none c none) Set.univ (progC (F := F) i st hst rest) K := by
  unfold progC partC stO
  iintro ⟨⟨⟨%fdy0, Hf2⟩, Hr2, Ht1, ⟨%fwfi0, Hf4⟩, Hr4, Ht3, ⟨%fwr1, Hf5⟩, Hr5, Ht6, Hc1, Hc3, Hc6, ⟨%fdy1, Hdy0⟩, ⟨%fwfi1, Hwfi0⟩, ⟨%fwr0, Hwr1⟩, ⟨%fdq1, Hdq1, %hdq1⟩, ⟨%fdq0, Hdq0⟩, ⟨%fwfq1, Hwfq1, %hwfq1⟩, ⟨%fwfq0, Hwfq0⟩, ⟨%facc, Hacc, %hacc⟩, ⟨%W, HO⟩⟩, HK⟩
  sl_exec
  have hw : wr1.view.read (Elt F) (View.write (Elt F) wr1.view fwr1 (ReadAs.same.apply (View.read (Elt F) (wrB (blk i)).view fw)) Finset.univ) = wrT c fw (blk i) :=
    View.read_write_univ _ _
  have hd1 : dyin0.view.read (Elt F) (View.write (Elt F) dyin0.view fdy0 (ReadAs.same.apply (View.read (Elt F) (dyB (blk i + 1)).view fdy)) Finset.univ) = dyT c fdy (blk i + 1) :=
    View.read_write_univ _ _
  have hw1 : wfi0.view.read (Elt F) (View.write (Elt F) wfi0.view fwfi0 (ReadAs.same.apply (View.read (Elt F) (wfB (blk i + 1)).view fw)) Finset.univ) = wfT c fw (blk i + 1) :=
    View.read_write_univ _ _
  iapply HK
  unfold stE
  isplitl [Hc1]
  · iexists fdy1; iexact Hc1
  isplitl [Ht1]
  · iexact Ht1
  isplitl [Hr2]
  · iexact Hr2
  isplitl [Hc3]
  · iexists fwfi1; iexact Hc3
  isplitl [Ht3]
  · iexact Ht3
  isplitl [Hr4]
  · iexact Hr4
  isplitl [Hc6]
  · iexists fwr0; iexact Hc6
  isplitl [Ht6]
  · iexact Ht6
  isplitl [Hr5]
  · iexact Hr5
  isplitl [Hf2]
  · iexact Hf2
  isplitl [Hf4]
  · iexact Hf4
  isplitl [Hf5]
  · iexact Hf5
  isplitl [Hf2_dst]
  · iexists _; iexact Hf2_dst
  isplitl [Hf4_dst]
  · iexists _; iexact Hf4_dst
  isplitl [Hf5_dst]
  · iexists _; iexact Hf5_dst
  isplitl [Hdq0]
  · iexists _
    isplitl [Hdq0]
    · iexact Hdq0
    · ipureintro
      rw [← hd1]
      refine dq_read _ _ _ _ ?_ (View.cover_of_tiledL _ ![256, 512] (by sl_kernel_rfl))
      repeat' (first | exact List.forall_mem_nil _ | refine List.forall_mem_cons.mpr ⟨q_ok _ _ _ (by decide) (by decide) _ rfl, ?_⟩)
  isplitl [Hdq1]
  · iexists _; iexact Hdq1
  isplitl [Hwfq0]
  · iexists _
    isplitl [Hwfq0]
    · iexact Hwfq0
    · ipureintro
      rw [← hw1]
      refine wq_read _ _ _ _ ?_ (View.cover_of_tiledL _ ![256, 512] (by sl_kernel_rfl))
      repeat' (first | exact List.forall_mem_nil _ | refine List.forall_mem_cons.mpr ⟨q_ok _ _ _ (by decide) (by decide) _ rfl, ?_⟩)
  isplitl [Hwfq1]
  · iexists _; iexact Hwfq1
  isplitl [Hacc]
  · iexists _
    isplitl [Hacc]
    · iexact Hacc
    · ipureintro
      show _ = stepAcc (qArr (dyT c fdy (blk i))) (qArr (wfT c fw (blk i))) (qArr (wrT c fw (blk i))) (accAt c fdy fw (blk i))
      rw [← hdq1, ← hwfq1, ← hw, ← hacc]
      refine acc_read _ _ _ _ _ _ _ ?_ (View.cover_of_tiledL _ ![512, 512] (by sl_kernel_rfl))
      refine List.forall_mem_cons.mpr ⟨tile_okR _ _ _ _ 2 4 (by decide) (by decide) (by decide) 1024 2048 1536 rfl rfl rfl inb_S1536x2560_S512x512_1024_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 4 (by decide) (by decide) (by decide) 512 2048 1536 rfl rfl rfl inb_S1536x2560_S512x512_512_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 4 (by decide) (by decide) (by decide) 0 2048 1536 rfl rfl rfl inb_S1536x2560_S512x512_0_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 3 (by decide) (by decide) (by decide) 1024 1536 1024 rfl rfl rfl inb_S1536x2560_S512x512_1024_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 3 (by decide) (by decide) (by decide) 512 1536 1024 rfl rfl rfl inb_S1536x2560_S512x512_512_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 3 (by decide) (by decide) (by decide) 0 1536 1024 rfl rfl rfl inb_S1536x2560_S512x512_0_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 2 (by decide) (by decide) (by decide) 1024 1024 512 rfl rfl rfl inb_S1536x2560_S512x512_1024_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 2 (by decide) (by decide) (by decide) 512 1024 512 rfl rfl rfl inb_S1536x2560_S512x512_512_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 2 (by decide) (by decide) (by decide) 0 1024 512 rfl rfl rfl inb_S1536x2560_S512x512_0_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 1 (by decide) (by decide) (by decide) 1024 512 0 rfl rfl rfl inb_S1536x2560_S512x512_1024_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 1 (by decide) (by decide) (by decide) 512 512 0 rfl rfl rfl inb_S1536x2560_S512x512_512_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 1 (by decide) (by decide) (by decide) 0 512 0 rfl rfl rfl inb_S1536x2560_S512x512_0_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_ok _ _ _ _ 2 0 (by decide) (by decide) 1024 0 rfl rfl inb_S1536x2560_S512x512_1024_0 _ rfl, ?_⟩
      refine List.forall_mem_cons.mpr ⟨tile_ok _ _ _ _ 1 0 (by decide) (by decide) 512 0 rfl rfl inb_S1536x2560_S512x512_512_0 _ rfl, ?_⟩
      refine List.forall_mem_cons.mpr ⟨tile_ok _ _ _ _ 0 0 (by decide) (by decide) 0 0 rfl rfl inb_S1536x2560_S512x512_0_0 _ rfl, ?_⟩
      exact List.forall_mem_nil _
  iexists _; iexact HO

end Cert.KernelIdeal.Hand

end
-- ==== Proof.Norm.lean ====
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The strips and slots of the last step's loops -/

theorem off18_eq (t : Fin k0_t1_loop.trips) (r : Fin k0_t2_loop.trips) : k0_off18 t r = ![16 * (8 * t.val + r.val), 0] :=
  (by decide +kernel : ∀ (t : Fin k0_t1_loop.trips) (r : Fin k0_t2_loop.trips), k0_off18 t r = ![16 * (8 * t.val + r.val), 0]) t r
theorem off19_eq (t : Fin k0_t1_loop.trips) (r : Fin k0_t2_loop.trips) : k0_off19 t r = ![t.val % 2, 16 * r.val, 0] :=
  (by decide +kernel : ∀ (t : Fin k0_t1_loop.trips) (r : Fin k0_t2_loop.trips), k0_off19 t r = ![t.val % 2, 16 * r.val, 0]) t r
theorem off14_eq (t : Fin k0_t1_loop.trips) : k0_off14 t = ![0, t.val % 2] :=
  (by decide +kernel : ∀ (t : Fin k0_t1_loop.trips), k0_off14 t = ![0, t.val % 2]) t
theorem off17_eq (t : Fin k0_t1_loop.trips) : k0_off17 t = ![1, t.val % 2] :=
  (by decide +kernel : ∀ (t : Fin k0_t1_loop.trips), k0_off17 t = ![1, t.val % 2]) t
theorem off20_eq (t : Fin k0_t1_loop.trips) : k0_off20 t = ![0, t.val % 2] :=
  (by decide +kernel : ∀ (t : Fin k0_t1_loop.trips), k0_off20 t = ![0, t.val % 2]) t
theorem off23_eq (t : Fin k0_t1_loop.trips) : k0_off23 t = ![1, t.val % 2] :=
  (by decide +kernel : ∀ (t : Fin k0_t1_loop.trips), k0_off23 t = ![1, t.val % 2]) t
theorem off16_eq (t : Fin k0_t1_loop.trips) : k0_off16 t = ![t.val % 2, 0, 0] :=
  (by decide +kernel : ∀ (t : Fin k0_t1_loop.trips), k0_off16 t = ![t.val % 2, 0, 0]) t
theorem off22_eq (t : Fin k0_t1_loop.trips) : k0_off22 t = ![t.val % 2, 0, 0] :=
  (by decide +kernel : ∀ (t : Fin k0_t1_loop.trips), k0_off22 t = ![t.val % 2, 0, 0]) t
theorem off21_eq (t : Fin k0_t1_loop.trips) : k0_off21 t = ![128 * (t.val % 12), 0] :=
  (by decide +kernel : ∀ (t : Fin k0_t1_loop.trips), k0_off21 t = ![128 * (t.val % 12), 0]) t
theorem cond7_iff (t : Fin k0_t1_loop.trips) : k0_cond7 t = 1#1 ↔ 2 ≤ t.val :=
  (by decide +kernel : ∀ (t : Fin k0_t1_loop.trips), k0_cond7 t = 1#1 ↔ 2 ≤ t.val) t

theorem outB_inb (b : ℕ) : ∀ a, (![128 * (b % 12), 0] : Fin 2 → ℕ) a + S128x2560.size a ≤ S1536x2560.size a := by
  intro a; have := Nat.mod_lt b (show 0 < 12 by decide)
  match a with
  | 0 => show 128 * (b % 12) + 128 ≤ 1536; omega
  | 1 => show _ + _ ≤ _; exact (by decide : (0 : ℕ) + 2560 ≤ 2560)
theorem slot_inb (s : ℕ) : ∀ a, (![s % 2, 0, 0] : Fin 3 → ℕ) a + S1x128x2560.size a ≤ S2x128x2560.size a := by
  intro a; have := Nat.mod_lt s (show 0 < 2 by decide)
  match a with
  | 0 => show s % 2 + 1 ≤ 2; omega
  | 1 => show _ + _ ≤ _; exact (by decide : (0 : ℕ) + 128 ≤ 128)
  | 2 => show _ + _ ≤ _; exact (by decide : (0 : ℕ) + 2560 ≤ 2560)

/-- Rows `128 b ..< 128 (b + 1)` of a result. -/
def outB (M : Memref sig .tc .hbm S1536x2560 .bf16) (b : ℕ) : Memref sig .tc .hbm S128x2560 .bf16 :=
  M.slice (Rect.unit (s := S1536x2560) ![128 * (b % 12), 0] S128x2560.size (outB_inb b)) (fun _ => rfl)
/-- Slot `s` of a two-slot staging buffer. -/
def slotB (M : Memref sig .tc .vmem S2x128x2560 .bf16) (s : ℕ) : Memref sig .tc .vmem S128x2560 .bf16 :=
  (M.slice (Rect.unit (s := S2x128x2560) ![s % 2, 0, 0] S1x128x2560.size (slot_inb s)) (fun _ => rfl)).squeeze S128x2560 squeezes_S1x128x2560_S128x2560
/-- The semaphore of slot `s` of the output copies: `j = 0` the first result's, `j = 1` the second's. -/
def outCell (j : Fin 2) (s : ℕ) : Fin 18 := ⟨14 + 2 * j.val + s % 2, by omega⟩

theorem outB_congr (M : Memref sig .tc .hbm S1536x2560 .bf16) {off : Fin 2 → ℕ} {b : ℕ} (e : off = ![128 * (b % 12), 0]) (hh hs) :
    M.slice (Rect.unit (s := S1536x2560) off S128x2560.size hh) hs = outB M b :=
  Memref.slice_unit_congr _ e _ _ _ (fun _ => rfl)
theorem slotB_congr (M : Memref sig .tc .vmem S2x128x2560 .bf16) {off : Fin 3 → ℕ} {s : ℕ} (e : off = ![s % 2, 0, 0]) (hh hs) :
    (M.slice (Rect.unit (s := S2x128x2560) off S1x128x2560.size hh) hs).squeeze S128x2560 squeezes_S1x128x2560_S128x2560 = slotB M s := by
  subst e; rfl
theorem outCell_congr {off : Fin 2 → ℕ} {j : Fin 2} {s : ℕ} (e : off = ![j.val, s % 2]) (hh) :
    ((cc0_scratch17.slice (Rect.unit (s := S2x2) off S1x1.size hh)).squeeze S_ squeezes_S1x1_S_).sem = outCell j s := by
  subst e
  have key : ∀ (j : Fin 2) (p : Fin 2) (hh), ((cc0_scratch17.slice (Rect.unit (s := S2x2) ![j.val, p.val] S1x1.size hh)).squeeze S_ squeezes_S1x1_S_).sem = (⟨14 + 2 * j.val + p.val, by omega⟩ : Fin 18) := by
    intro j p
    match j, p with
    | 0, 0 => intro _; with_unfolding_all rfl
    | 0, 1 => intro _; with_unfolding_all rfl
    | 1, 0 => intro _; with_unfolding_all rfl
    | 1, 1 => intro _; with_unfolding_all rfl
  exact key j ⟨s % 2, Nat.mod_lt _ (by decide)⟩ hh

@[sl_canon] theorem canon21 (M : Memref sig .tc .hbm S1536x2560 .bf16) (t : Fin k0_t1_loop.trips) (hh hs) :
    M.slice (Rect.unit (s := S1536x2560) (k0_off21 t) S128x2560.size hh) hs = outB M t.val := outB_congr M (off21_eq t) _ _
@[sl_canon] theorem canon22 (M : Memref sig .tc .vmem S2x128x2560 .bf16) (t : Fin k0_t1_loop.trips) (hh hs) :
    (M.slice (Rect.unit (s := S2x128x2560) (k0_off22 t) S1x128x2560.size hh) hs).squeeze S128x2560 squeezes_S1x128x2560_S128x2560 = slotB M t.val :=
  slotB_congr M (off22_eq t) _ _
@[sl_canon] theorem canon16 (M : Memref sig .tc .vmem S2x128x2560 .bf16) (t : Fin k0_t1_loop.trips) (hh hs) :
    (M.slice (Rect.unit (s := S2x128x2560) (k0_off16 t) S1x128x2560.size hh) hs).squeeze S128x2560 squeezes_S1x128x2560_S128x2560 = slotB M t.val :=
  slotB_congr M (off16_eq t) _ _
@[sl_canon] theorem canon14 (t : Fin k0_t1_loop.trips) (hh) :
    ((cc0_scratch17.slice (Rect.unit (s := S2x2) (k0_off14 t) S1x1.size hh)).squeeze S_ squeezes_S1x1_S_).sem = outCell 0 t.val := outCell_congr (off14_eq t) _
@[sl_canon] theorem canon17 (t : Fin k0_t1_loop.trips) (hh) :
    ((cc0_scratch17.slice (Rect.unit (s := S2x2) (k0_off17 t) S1x1.size hh)).squeeze S_ squeezes_S1x1_S_).sem = outCell 1 t.val := outCell_congr (off17_eq t) _
@[sl_canon] theorem canon20 (t : Fin k0_t1_loop.trips) (hh) :
    ((cc0_scratch17.slice (Rect.unit (s := S2x2) (k0_off20 t) S1x1.size hh)).squeeze S_ squeezes_S1x1_S_).sem = outCell 0 t.val := outCell_congr (off20_eq t) _
@[sl_canon] theorem canon23 (t : Fin k0_t1_loop.trips) (hh) :
    ((cc0_scratch17.slice (Rect.unit (s := S2x2) (k0_off23 t) S1x1.size hh)).squeeze S_ squeezes_S1x1_S_).sem = outCell 1 t.val := outCell_congr (off23_eq t) _

/-- The elements of a result's block of rows. -/
def outSet (M : Memref sig .tc .hbm S1536x2560 .bf16) (b : ℕ) : Finset M.view.ty.Idx := (outB M b).view.set
/-- The elements of a slot. -/
def slotSet (M : Memref sig .tc .vmem S2x128x2560 .bf16) (s : ℕ) : Finset M.view.ty.Idx := (slotB M s).view.set
theorem outSet_eq (M : Memref sig .tc .hbm S1536x2560 .bf16) (b : ℕ) :
    outSet M b = (Rect.unit (s := S1536x2560) ![128 * (b % 12), 0] S128x2560.size (outB_inb b)).set.map M.view.emb := View.set_slice _ _
theorem slotSet_eq (M : Memref sig .tc .vmem S2x128x2560 .bf16) (s : ℕ) :
    slotSet M s = (Rect.unit (s := S2x128x2560) ![s % 2, 0, 0] S1x128x2560.size (slot_inb s)).set.map M.view.emb :=
  (View.set_reshape _ _).trans (View.set_slice _ _)
theorem mem_outSet (M : Memref sig .tc .hbm S1536x2560 .bf16) (b : ℕ) (y : S1536x2560.Idx) :
    (M.view.emb y ∈ outSet M b) = (128 * (b % 12) ≤ (y 0).val ∧ (y 0).val < 128 * (b % 12) + 128) := by
  rw [outSet_eq]
  refine propext ((Finset.mem_map' _).trans (Rect.mem_set_unit.trans ⟨fun h => h 0, fun h a => ?_⟩))
  match a with
  | 0 => exact h
  | 1 => exact ⟨Nat.zero_le _, by show (y 1).val < 0 + 2560; have := (y 1).isLt; change (y 1).val < 2560 at this; omega⟩
theorem mem_slotSet (M : Memref sig .tc .vmem S2x128x2560 .bf16) (s : ℕ) (y : S2x128x2560.Idx) :
    (M.view.emb y ∈ slotSet M s) = ((y 0).val = s % 2) := by
  rw [slotSet_eq]
  refine propext ((Finset.mem_map' _).trans (Rect.mem_set_unit.trans ⟨fun h => ?_, fun h a => ?_⟩))
  · have := h 0; change s % 2 ≤ (y 0).val ∧ (y 0).val < s % 2 + 1 at this; omega
  match a with
  | 0 => show s % 2 ≤ (y 0).val ∧ (y 0).val < s % 2 + 1; omega
  | 1 => exact ⟨Nat.zero_le _, by show (y 1).val < 0 + 128; have := (y 1).isLt; change (y 1).val < 128 at this; omega⟩
  | 2 => exact ⟨Nat.zero_le _, by show (y 2).val < 0 + 2560; have := (y 2).isLt; change (y 2).val < 2560 at this; omega⟩

/-! ## What the norm's strips compute -/

theorem strip_inb (n : ℕ) : ∀ a, (![16 * (n % 96), 0] : Fin 2 → ℕ) a + S16x2560.size a ≤ S1536x2560.size a := by
  intro a; have := Nat.mod_lt n (show 0 < 96 by decide)
  match a with
  | 0 => show 16 * (n % 96) + 16 ≤ 1536; omega
  | 1 => show _ + _ ≤ _; exact (by decide : (0 : ℕ) + 2560 ≤ 2560)
/-- Strip `n`: rows `16 n ..< 16 (n + 1)`. -/
def strip {e : EltTy} (X : Vec F S1536x2560 e) (n : ℕ) : Vec F S16x2560 e :=
  View.ld X (Rect.unit (s := S1536x2560) ![16 * (n % 96), 0] S16x2560.size (strip_inb n))
/-- The first result from the rows `h`, the product `acc` and the gain, strip by strip. -/
def gDh (h : Vec F S1536x2560 .bf16) (acc : Vec F S1536x2560 .f32) (gain : Vec F S1x2560 .f32) : Vec F S1536x2560 .bf16 :=
  fun y => k0_pay235 (strip h ((y 0).val / 16)) (strip acc ((y 0).val / 16)) gain (ix3 0 ⟨(y 0).val % 16, Nat.mod_lt _ (by decide)⟩ ⟨(y 1).val, (y 1).isLt⟩)
/-- The second result, strip by strip. -/
def gDx (acc : Vec F S1536x2560 .f32) : Vec F S1536x2560 .bf16 :=
  fun y => k0_pay308 (strip acc ((y 0).val / 16)) (ix3 0 ⟨(y 0).val % 16, Nat.mod_lt _ (by decide)⟩ ⟨(y 1).val, (y 1).isLt⟩)

theorem readAt_strip {c : Dev nD} {sp : Space} {e : EltTy} (M : Memref sig .tc sp S1536x2560 e) {off : Fin 2 → ℕ} {n : ℕ} (hn : n < 96) (e' : off = ![16 * n, 0])
    (hh) (f : Bf (F := F) c M) :
    M.view.readAt (Elt F) (Rect.unit (s := S1536x2560) off S16x2560.size hh).toLoadRect f = strip (F := F) (M.view.read (Elt F) f) n := by
  subst e'
  have h : (![16 * n, 0] : Fin 2 → ℕ) = ![16 * (n % 96), 0] := by rw [Nat.mod_eq_of_lt hn]
  unfold strip
  rw [View.readAt_eq_ld]
  congr 1
  exact Rect.unit_eq_of_eq hh h

/-- The first `n` rows of slot `t % 2` hold those of block `t` of the result `T`. -/
def SlotHas {c : Dev nD} (M : Memref sig .tc .vmem S2x128x2560 .bf16) (f : Bf (F := F) c M) (T : Vec F S1536x2560 .bf16) (t n : ℕ) : Prop :=
  ∀ (a : Fin 128) (b : Fin 2560) (ht : 128 * t + a.val < 1536), a.val < n →
    M.view.read (Elt F) f (ix3 ⟨t % 2, Nat.mod_lt _ (by decide)⟩ a b) = T (ix2 ⟨128 * t + a.val, ht⟩ b)

/-- One more strip stored into the slot. -/
theorem slotHas_step {c : Dev nD} (M : Memref sig .tc .vmem S2x128x2560 .bf16) (f : Bf (F := F) c M) (T : Vec F S1536x2560 .bf16)
    (t r : ℕ) (ht : t < 12) (hr : r < 8) {off : Fin 3 → ℕ} (e : off = ![t % 2, 16 * r, 0]) (hh) (w : Vec F S1x16x2560 .bf16)
    (hw : ∀ (a : Fin 16) (b : Fin 2560) (h : 16 * (8 * t + r) + a.val < 1536), w (ix3 0 a b) = T (ix2 ⟨16 * (8 * t + r) + a.val, h⟩ b))
    (hf : SlotHas M f T t (16 * r)) :
    SlotHas (c := c) M ((M.access (Rect.unit (s := S2x128x2560) off S1x16x2560.size hh)).write (Elt F) f w Finset.univ) T t (16 * (r + 1)) := by
  subst e
  intro a b hta ha
  by_cases hlo : a.val < 16 * r
  · rw [← hf a b hta hlo]
    refine View.read_slice_write_of_not_mem (v := M.view) _ _ _ _ ?_
    rw [Rect.map_emb_univ, Rect.mem_set_unit]
    intro h
    have h1 := (h 1).1
    change 16 * r ≤ a.val at h1
    omega
  · have hx : (Rect.unit (s := S2x128x2560) ![t % 2, 16 * r, 0] S1x16x2560.size hh).emb (ix3 (n0 := 1) (n1 := 16) (n2 := 2560) 0 ⟨a.val - 16 * r, by omega⟩ b)
        = ix3 (n0 := 2) (n1 := 128) (n2 := 2560) ⟨t % 2, Nat.mod_lt _ (by decide)⟩ a b := by
      funext k
      refine Fin.ext ?_
      match k with
      | 0 => show t % 2 + 1 * 0 = t % 2; omega
      | 1 => show 16 * r + 1 * (a.val - 16 * r) = a.val; omega
      | 2 => show 0 + 1 * b.val = b.val; omega
    rw [← hx]
    refine (View.read_slice_write_emb (v := M.view) _ _ _ (Finset.mem_univ _)).trans ?_
    refine (hw ⟨a.val - 16 * r, by omega⟩ b (by show 16 * (8 * t + r) + (a.val - 16 * r) < 1536; omega)).trans (congrArg T ?_)
    congr 1
    exact Fin.ext (by show 16 * (8 * t + r) + (a.val - 16 * r) = 128 * t + a.val; omega)

theorem gDh_strip (h : Vec F S1536x2560 .bf16) (acc : Vec F S1536x2560 .f32) (gain : Vec F S1x2560 .f32) (n : ℕ) (a : Fin 16) (b : Fin 2560) (hn : 16 * n + a.val < 1536) :
    k0_pay235 (strip h n) (strip acc n) gain (ix3 0 a b) = gDh h acc gain (ix2 ⟨16 * n + a.val, hn⟩ b) := by
  have h1 : (16 * n + a.val) / 16 = n := by omega
  have h2 : (16 * n + a.val) % 16 = a.val := by omega
  unfold gDh
  simp only [ix2_0, ix2_1, h1, h2]
theorem gDx_strip (acc : Vec F S1536x2560 .f32) (n : ℕ) (a : Fin 16) (b : Fin 2560) (hn : 16 * n + a.val < 1536) :
    k0_pay308 (strip acc n) (ix3 0 a b) = gDx acc (ix2 ⟨16 * n + a.val, hn⟩ b) := by
  have h1 : (16 * n + a.val) / 16 = n := by omega
  have h2 : (16 * n + a.val) % 16 = a.val := by omega
  unfold gDx
  simp only [ix2_0, ix2_1, h1, h2]

/-- A full slot copied out leaves the block of the result. -/
theorem landed_eq {c : Dev nD} (M : Memref sig .tc .vmem S2x128x2560 .bf16) (O : Memref sig .tc .hbm S1536x2560 .bf16) (f : Bf (F := F) c M) (T : Bf (F := F) c O)
    (t : ℕ) (ht : t < 12) (hf : SlotHas M f (O.view.read (Elt F) T) t 128) (fd : Bf (F := F) c (outB O t))
    (hr : (outB O t).view.read (Elt F) fd = (slotB M t).view.read (Elt F) f) :
    ∀ y ∈ (outB O t).view.set, fd y = T y := by
  intro y hy
  obtain ⟨x, -, rfl⟩ := Finset.mem_map.mp hy
  obtain ⟨a, b, rfl⟩ : ∃ (a : Fin 128) (b : Fin 2560), x = ix2 a b := ⟨x 0, x 1, (ix2_eta (n0 := 128) (n1 := 2560) x).symm⟩
  have h1 : (slotB M t).view.read (Elt F) f (ix2 (n0 := 128) (n1 := 2560) a b) = O.view.read (Elt F) T (ix2 ⟨128 * t + a.val, by omega⟩ b) := by
    rw [← hf a b (by omega) a.isLt]
    show M.view.read (Elt F) f _ = M.view.read (Elt F) f _
    congr 1
    show (Rect.unit (s := S2x128x2560) ![t % 2, 0, 0] S1x128x2560.size (slot_inb t)).emb
      (Shape.reshapeEquiv (s := ⟨3, ![1, 128, 2560]⟩) (s' := ⟨2, ![128, 2560]⟩) _ (ix2 a b)) = _
    have hq : ∀ h, Shape.reshapeEquiv (s := ⟨3, ![1, 128, 2560]⟩) (s' := ⟨2, ![128, 2560]⟩) h (ix2 a b) = ix3 (0 : Fin 1) a b := fun h =>
      Shape.reshapeEquiv_eq_of_rowMajor h (by
        rw [Shape.rowMajor_val_three, Shape.rowMajor_val_two]
        show ((0 * 128 + a.val) * 2560 + b.val) = a.val * 2560 + b.val
        simp only [Nat.zero_mul, Nat.zero_add])
    rw [hq]
    funext k
    refine Fin.ext ?_
    match k with
    | 0 => show t % 2 + 1 * 0 = t % 2; omega
    | 1 => show 0 + 1 * a.val = a.val; omega
    | 2 => show 0 + 1 * b.val = b.val; omega
  have h2 : O.view.read (Elt F) T (ix2 ⟨128 * t + a.val, by omega⟩ b) = (outB O t).view.read (Elt F) T (ix2 (n0 := 128) (n1 := 2560) a b) := by
    show O.view.read (Elt F) T _ = O.view.read (Elt F) T _
    congr 1
    funext k
    refine Fin.ext ?_
    match k with
    | 0 => show 128 * t + a.val = 128 * (t % 12) + 1 * a.val; omega
    | 1 => show b.val = 0 + 1 * b.val; omega
  have h3 := h1.trans h2
  have h4 : ∀ (T' : (outB O t).view.ty.Contents (Elt F)) x,
      cast (congrArg (Elt F) (outB O t).view.elt_eq.symm) ((outB O t).view.read (Elt F) T' x) = T' ((outB O t).view.emb x) := by
    intro T' x; rw [View.read_apply, cast_cast]; rfl
  exact (h4 fd _).symm.trans ((congrArg (cast _) ((congrFun hr _).trans h3)).trans (h4 T _))

end Cert.KernelIdeal.Hand

end
-- ==== Proof.Loop.lean ====
module

public import proofs.«01_k».proof.Proof.Norm

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The inner loop: one slot filled strip by strip -/

section Inner

variable (c : Dev nD) (i : grid0.Coords) (st : Memref sig .tc .vmem S1x2560 .f32) (hst : st.IsWhole) (h6 : k0_cond6 i = 1#1)
  (v743 : Vec F S512x1024 .bf16) (v744 : Vec F S512x512 .f32)

/-- The outer loop's body at the kernel's buffers. -/
abbrev outBody (t : Fin k0_t1_loop.trips) : Prog (TpuEff nD τ sig (Elt F) Λ₀ .tc) Unit :=
  k0_t1_body i dyM (Memref.isWhole_whole _) wM (Memref.isWhole_whole _) hM (Memref.isWhole_whole _) st hst dhM (Memref.isWhole_whole _) dxM (Memref.isWhole_whole _)
    dyin0 (Memref.isWhole_whole _) dyin1 (Memref.isWhole_whole _) dq0 (Memref.isWhole_whole _) dq1 (Memref.isWhole_whole _)
    wfi0 (Memref.isWhole_whole _) wfi1 (Memref.isWhole_whole _) wfq0 (Memref.isWhole_whole _) wfq1 (Memref.isWhole_whole _)
    wr0 (Memref.isWhole_whole _) wr1 (Memref.isWhole_whole _) accM (Memref.isWhole_whole _) hvM (Memref.isWhole_whole _)
    dhvM (Memref.isWhole_whole _) dxvM (Memref.isWhole_whole _) cc0_scratch14 cc0_scratch15 cc0_scratch16 cc0_scratch17 h6 v743 v744 t ()
/-- The inner loop's body at the kernel's buffers. -/
abbrev inBody (t : Fin k0_t1_loop.trips) (v167 v168 : BitVec 32) (r : Fin k0_t2_loop.trips) : Prog (TpuEff nD τ sig (Elt F) Λ₀ .tc) Unit :=
  k0_t2_body i dyM (Memref.isWhole_whole _) wM (Memref.isWhole_whole _) hM (Memref.isWhole_whole _) st hst dhM (Memref.isWhole_whole _) dxM (Memref.isWhole_whole _)
    dyin0 (Memref.isWhole_whole _) dyin1 (Memref.isWhole_whole _) dq0 (Memref.isWhole_whole _) dq1 (Memref.isWhole_whole _)
    wfi0 (Memref.isWhole_whole _) wfi1 (Memref.isWhole_whole _) wfq0 (Memref.isWhole_whole _) wfq1 (Memref.isWhole_whole _)
    wr0 (Memref.isWhole_whole _) wr1 (Memref.isWhole_whole _) accM (Memref.isWhole_whole _) hvM (Memref.isWhole_whole _)
    dhvM (Memref.isWhole_whole _) dxvM (Memref.isWhole_whole _) cc0_scratch14 cc0_scratch15 cc0_scratch16 cc0_scratch17 h6 v743 v744 t v167 v168 r ()

/-- A slot of a staging buffer, at contents of that buffer. -/
abbrev slotP (M : Memref sig .tc .vmem S2x128x2560 .bf16) (t : ℕ) (f : Bf (F := F) c M) : sProp 𝕄 :=
  M.view.loc (c : Thread nD τ) ↦[slotSet M t]{fullShare} f

variable (facc : Bf (F := F) c accM) (fhv : Bf (F := F) c hvM) (fst : Bf (F := F) c st)

/-- The first result, from what the buffers hold. -/
abbrev tDh : Vec F S1536x2560 .bf16 := gDh (hvM.view.read (Elt F) fhv) (accM.view.read (Elt F) facc) (st.view.read (Elt F) fst)
/-- The second result, from what the product's buffer holds. -/
abbrev tDx : Vec F S1536x2560 .bf16 := gDx (accM.view.read (Elt F) facc)

/-- What the loops read: the product, the rows and the gain. -/
def rdP : sProp 𝕄 := iprop(pt c accM facc ∗ pt c hvM fhv ∗ (st.view.loc (c : Thread nD τ) ↦[st.view.set]{fullShare} fst))

/-- Before strip `r` of block `t`: the slot's first `16 r` rows hold the results' rows. -/
def innerInv (t r : ℕ) : sProp 𝕄 :=
  iprop(rdP c st facc fhv fst
    ∗ (∃ f, slotP c dhvM t f ∗ ⌜SlotHas dhvM f (tDh c st facc fhv fst) t (16 * r)⌝)
    ∗ (∃ f, slotP c dxvM t f ∗ ⌜SlotHas dxvM f (tDx c facc) t (16 * r)⌝))

theorem strip_within (M : Memref sig .tc .vmem S2x128x2560 .bf16) (t r : ℕ) {off : Fin 3 → ℕ} (e : off = ![t % 2, 16 * r, 0]) (hh) :
    M.view.setOn (Rect.unit (s := S2x128x2560) off S1x16x2560.size hh).set ⊆ slotSet M t := by
  subst e
  intro y hy
  obtain ⟨x, hx, rfl⟩ := Finset.mem_map.mp hy
  rw [mem_slotSet]
  have h0 := (Rect.mem_set_unit.mp hx) 0
  change t % 2 ≤ (x 0).val ∧ (x 0).val < t % 2 + 1 at h0
  omega

theorem inner_step (t : Fin k0_t1_loop.trips) (v167 v168 : BitVec 32) (r : Fin k0_t2_loop.trips) :
    innerInv c st facc fhv fst t.val r.val ⊢ wp frame (wpE (defs₀ (F := F)) Variants.none (c : Thread nD τ) none) Set.univ
      (inBody i st hst h6 v743 v744 t v167 v168 r) (fun _ => innerInv c st facc fhv fst t.val (r.val + 1)) := by
  unfold innerInv rdP slotP
  iintro ⟨⟨Hacc, Hhv, Hst⟩, ⟨%f, Hs, %hf⟩, ⟨%g, Hd, %hg⟩⟩
  dsimp only [inBody]
  sl_unfold [k0_t2_body]
  sl_exec
  have hS1 : dhvM.view.setOn (Rect.unit (s := S2x128x2560) (k0_off19 t r) S1x16x2560.size (k0_off19_inb i t r h6)).set ⊆ slotSet dhvM t.val :=
    strip_within dhvM t.val r.val (off19_eq t r) _
  have hA1 : (dhvM.access (Rect.unit (s := S2x128x2560) (k0_off19 t r) S1x16x2560.size (k0_off19_inb i t r h6))).setOn Finset.univ ⊆ slotSet dhvM t.val := by
    rw [View.setOn_univ]; exact (View.set_slice (v := dhvM.view) _).subset.trans hS1
  iapply (wp_load (m := dhvM) Variants.none (c : Thread nD τ) none Set.univ (S := slotSet dhvM t.val) (f := f) hS1) $$ Hs
  iintro Hs
  iapply (wp_store (m := dhvM) (r := Rect.unit (s := S2x128x2560) (k0_off19 t r) S1x16x2560.size (k0_off19_inb i t r h6)) Variants.none (c : Thread nD τ) none Set.univ (S := slotSet dhvM t.val) (f := f) (Mk := Finset.univ) hA1) $$ Hs
  iintro Hs
  dsimp only [Prog.bind]
  sl_exec
  have hS2 : dxvM.view.setOn (Rect.unit (s := S2x128x2560) (k0_off19 t r) S1x16x2560.size (k0_off19_inb i t r h6)).set ⊆ slotSet dxvM t.val :=
    strip_within dxvM t.val r.val (off19_eq t r) _
  have hA2 : (dxvM.access (Rect.unit (s := S2x128x2560) (k0_off19 t r) S1x16x2560.size (k0_off19_inb i t r h6))).setOn Finset.univ ⊆ slotSet dxvM t.val := by
    rw [View.setOn_univ]; exact (View.set_slice (v := dxvM.view) _).subset.trans hS2
  iapply (wp_load (m := dxvM) Variants.none (c : Thread nD τ) none Set.univ (S := slotSet dxvM t.val) (f := g) hS2) $$ Hd
  iintro Hd
  iapply (wp_store (m := dxvM) (r := Rect.unit (s := S2x128x2560) (k0_off19 t r) S1x16x2560.size (k0_off19_inb i t r h6)) Variants.none (c : Thread nD τ) none Set.univ (S := slotSet dxvM t.val) (f := g) (Mk := Finset.univ) hA2) $$ Hd
  iintro Hd
  dsimp only [Prog.bind]
  sl_step
  have ht : t.val < 12 := t.isLt
  have hr : r.val < 8 := r.isLt
  isplitl [Hacc Hhv Hst]
  · isplitl [Hacc]; · iexact Hacc
    isplitl [Hhv]; · iexact Hhv
    iexact Hst
  isplitl [Hs]
  · iexists _
    isplitl [Hs]; · iexact Hs
    ipureintro
    refine slotHas_step dhvM f _ t.val r.val ht hr (off19_eq t r) _ _ (fun a b h => ?_) hf
    rw [readAt_strip (c := c) hvM (n := 8 * t.val + r.val) (by omega) (off18_eq t r), readAt_strip (c := c) accM (n := 8 * t.val + r.val) (by omega) (off18_eq t r),
      View.readAt_eq_ld, View.ld_unit_zero (by decide)]
    exact gDh_strip _ _ _ _ a b h
  · iexists _
    isplitl [Hd]; · iexact Hd
    ipureintro
    refine slotHas_step dxvM g _ t.val r.val ht hr (off19_eq t r) _ _ (fun a b h => ?_) hg
    unfold inner_step.sl.r
    rw [readAt_strip (c := c) accM (n := 8 * t.val + r.val) (by omega) (off18_eq t r)]
    exact gDx_strip _ _ a b h

/-! ## The outer loop -/

/-- A block of a result on its way out of its slot, on a cell of its own: the block landed and the slot back. -/
abbrev outFly (j : Fin 2) (s b : ℕ) (O : Memref sig .tc .hbm S1536x2560 .bf16) (M : Memref sig .tc .vmem S2x128x2560 .bf16)
    (fd : Bf (F := F) c (outB O b)) (fs : Bf (F := F) c (slotB M s)) : sProp 𝕄 :=
  Transfers.Flight countersEmb (c : Thread nD τ) (SemLoc.dma (outCell j s)) () 20480
    iprop(((outB O b).view.loc (c : Thread nD τ) ↦[(outB O b).view.set]{fullShare} fd)
      ∗ ((slotB M s).view.loc (c : Thread nD τ) ↦[(slotB M s).view.set]{fullShare} fs))

/-- A block of a result, at the values of `T`. -/
abbrev doneB (O : Memref sig .tc .hbm S1536x2560 .bf16) (T : Bf (F := F) c O) (b : ℕ) : sProp 𝕄 :=
  O.view.loc (c : Thread nD τ) ↦[outSet O b]{fullShare} T
/-- A block of a result, at whatever it holds. -/
abbrev todoB (O : Memref sig .tc .hbm S1536x2560 .bf16) (b : ℕ) : sProp 𝕄 :=
  iprop(∃ g : Bf (F := F) c O, O.view.loc (c : Thread nD τ) ↦[outSet O b]{fullShare} g)
/-- A block of the result `T` on its way out of slot `s`. -/
def outFlyT (j : Fin 2) (s b : ℕ) (O : Memref sig .tc .hbm S1536x2560 .bf16) (M : Memref sig .tc .vmem S2x128x2560 .bf16) (T : Bf (F := F) c O) : sProp 𝕄 :=
  iprop(∃ (fd : Bf (F := F) c (outB O b)) (fs : Bf (F := F) c (slotB M s)), ⌜∀ y ∈ (outB O b).view.set, fd y = T y⌝ ∗ outFly c j s b O M fd fs)
/-- Slot `s` and its cell idle. -/
def slotFree (j : Fin 2) (s : ℕ) (M : Memref sig .tc .vmem S2x128x2560 .bf16) : sProp 𝕄 :=
  iprop(∃ f : Bf (F := F) c M, slotP c M s f ∗ cell c (outCell j s))
/-- What trip `t` finds of one result's slot: idle on the first two trips, carrying block `t - 2` out on the others. -/
def pend (j : Fin 2) (O : Memref sig .tc .hbm S1536x2560 .bf16) (M : Memref sig .tc .vmem S2x128x2560 .bf16) (T : Bf (F := F) c O) (t : ℕ) : sProp 𝕄 :=
  if 2 ≤ t then outFlyT c j t (t - 2) O M T else slotFree c j t M
/-- What trip `t` finishes. -/
def landed (O : Memref sig .tc .hbm S1536x2560 .bf16) (T : Bf (F := F) c O) (t : ℕ) : sProp 𝕄 :=
  if 2 ≤ t then doneB c O T (t - 2) else iprop(emp)

theorem landed_of {O : Memref sig .tc .hbm S1536x2560 .bf16} {T : Bf (F := F) c O} {b : ℕ} {fd : Bf (F := F) c (outB O b)} (h : ∀ y ∈ (outB O b).view.set, fd y = T y) :
    ((outB O b).view.loc (c : Thread nD τ) ↦[(outB O b).view.set]{fullShare} fd : sProp 𝕄) ⊢ doneB c O T b := by
  rw [pointsTo_congr h]; exact .rfl

theorem blockIn (O : Memref sig .tc .hbm S1536x2560 .bf16) (b : ℕ) (g : Bf (F := F) c O) :
    (O.view.loc (c : Thread nD τ) ↦[outSet O b]{fullShare} g : sProp 𝕄) ⊢ (outB O b).view.loc (c : Thread nD τ) ↦[(outB O b).view.set]{fullShare} g := .rfl
theorem slotIn (M : Memref sig .tc .vmem S2x128x2560 .bf16) (b : ℕ) (g : Bf (F := F) c M) :
    slotP c M b g ⊢ (slotB M b).view.loc (c : Thread nD τ) ↦[(slotB M b).view.set]{fullShare} g := .rfl
theorem inner_in (t : ℕ) (f : Bf (F := F) c dhvM) (g : Bf (F := F) c dxvM) :
    iprop(rdP c st facc fhv fst ∗ slotP c dhvM t f ∗ slotP c dxvM t g) ⊢ innerInv c st facc fhv fst t 0 := by
  unfold innerInv
  iintro ⟨HR, Hf, Hg⟩
  isplitl [HR]; · iexact HR
  isplitl [Hf]
  · iexists f; isplitl [Hf]; · iexact Hf
    ipureintro; intro a b _ h; exact absurd h (Nat.not_lt_zero _)
  · iexists g; isplitl [Hg]; · iexact Hg
    ipureintro; intro a b _ h; exact absurd h (Nat.not_lt_zero _)
theorem outFly_in {j : Fin 2} {t : ℕ} (ht : t < 12) {O : Memref sig .tc .hbm S1536x2560 .bf16} {M : Memref sig .tc .vmem S2x128x2560 .bf16} {T : Bf (F := F) c O}
    {f : Bf (F := F) c M} {fd : Bf (F := F) c (outB O t)} {w : Vec F S128x2560 .bf16} (hw : w = (slotB M t).view.read (Elt F) f)
    (hf : SlotHas M f (O.view.read (Elt F) T) t 128) :
    outFly c j t t O M ((outB O t).view.writes (Elt F) fd [⟨Rect.whole S128x2560, w⟩]) f ⊢
      iprop(∃ (fd : Bf (F := F) c (outB O t)) (fs : Bf (F := F) c (slotB M t)), ⌜∀ y ∈ (outB O t).view.set, fd y = T y⌝ ∗ outFly c j t t O M fd fs) := by
  iintro H
  iexists ((outB O t).view.writes (Elt F) fd [⟨Rect.whole S128x2560, w⟩]), f
  isplitr
  · ipureintro; exact landed_eq M O f T t ht hf _ ((View.read_writes_whole _ _ _).trans hw)
  iexact H

set_option sl_exec.dmaWindow true in
/-- One trip of the outer loop: the block on its way out of the slot lands, the slot is filled with block `t` and sets off. -/
theorem trip_run (Tdh : Bf (F := F) c dhM) (Tdx : Bf (F := F) c dxM) (hTdh : dhM.view.read (Elt F) Tdh = tDh c st facc fhv fst) (hTdx : dxM.view.read (Elt F) Tdx = tDx c facc)
    (t : Fin k0_t1_loop.trips) :
    iprop(rdP c st facc fhv fst ∗ pend c 0 dhM dhvM Tdh t.val ∗ pend c 1 dxM dxvM Tdx t.val ∗ todoB c dhM t.val ∗ todoB c dxM t.val ∗ (∃ W, owes (c : Thread nD τ) 0 W))
    ⊢ wp frame (wpE (defs₀ (F := F)) Variants.none (c : Thread nD τ) none) Set.univ (outBody i st hst h6 v743 v744 t)
      (fun _ => iprop(rdP c st facc fhv fst ∗ outFlyT c 0 t.val t.val dhM dhvM Tdh ∗ outFlyT c 1 t.val t.val dxM dxvM Tdx
        ∗ landed c dhM Tdh t.val ∗ landed c dxM Tdx t.val ∗ (∃ W, owes (c : Thread nD τ) 0 W))) := by
  have ht : t.val < 12 := t.isLt
  unfold pend landed outFlyT slotFree
  by_cases h2 : 2 ≤ t.val
  all_goals
    first | rw [if_pos h2, if_pos h2, if_pos h2, if_pos h2] | rw [if_neg h2, if_neg h2, if_neg h2, if_neg h2]
  · have h7 := (cond7_iff t).mpr h2
    iintro ⟨HR, ⟨%fd, %fs, %hfd, Hf⟩, ⟨%fd', %fs', %hfd', Hg⟩, ⟨%gd, Hd⟩, ⟨%gd', He⟩, ⟨%W, HO⟩⟩
    dsimp only [outBody]
    sl_unfold [k0_t1_body]
    sl_exec
    sl_for (fun r (_ : Unit) => innerInv c st facc fhv fst t.val r) $$ [HR Hf_src Hg_src]
    · exact fun r _ => inner_step c i st hst h6 v743 v744 facc fhv fst t _ _ r
    · iapply (inner_in c st facc fhv fst t.val _ _); isplitl [HR]; · iexact HR
      isplitl [Hf_src]; · iexact Hf_src
      iexact Hg_src
    iintro %_ HI
    unfold innerInv
    icases HI with ⟨HR, ⟨%f8, Hf8, %hf8⟩, ⟨%g8, Hg8, %hg8⟩⟩
    ihave Hf8 := (slotIn c dhvM t.val f8) $$ Hf8
    ihave Hg8 := (slotIn c dxvM t.val g8) $$ Hg8
    ihave Hd := (blockIn c dhM t.val gd) $$ Hd
    ihave He := (blockIn c dxM t.val gd') $$ He
    sl_exec
    sl_step
    isplitl [HR]; · iexact HR
    isplitl [Hf]
    · iapply (outFly_in c ht (f := f8) rfl (hTdh ▸ hf8)); iexact Hf
    isplitl [Hg]
    · iapply (outFly_in c ht (f := g8) rfl (hTdx ▸ hg8)); iexact Hg
    isplitl [Hf_dst]
    · iapply (landed_of c hfd); iexact Hf_dst
    isplitl [Hg_dst]
    · iapply (landed_of c hfd'); iexact Hg_dst
    iexists _; iexact HO
  · have h7 : ¬ k0_cond7 t = 1#1 := fun h => h2 ((cond7_iff t).mp h)
    iintro ⟨HR, ⟨%fs, Hf_src, Hf⟩, ⟨%fs', Hg_src, Hg⟩, ⟨%gd, Hd⟩, ⟨%gd', He⟩, ⟨%W, HO⟩⟩
    dsimp only [outBody]
    sl_unfold [k0_t1_body]
    sl_exec
    sl_for (fun r (_ : Unit) => innerInv c st facc fhv fst t.val r) $$ [HR Hf_src Hg_src]
    · exact fun r _ => inner_step c i st hst h6 v743 v744 facc fhv fst t _ _ r
    · iapply (inner_in c st facc fhv fst t.val _ _); isplitl [HR]; · iexact HR
      isplitl [Hf_src]; · iexact Hf_src
      iexact Hg_src
    iintro %_ HI
    unfold innerInv
    icases HI with ⟨HR, ⟨%f8, Hf8, %hf8⟩, ⟨%g8, Hg8, %hg8⟩⟩
    ihave Hf8 := (slotIn c dhvM t.val f8) $$ Hf8
    ihave Hg8 := (slotIn c dxvM t.val g8) $$ Hg8
    ihave Hd := (blockIn c dhM t.val gd) $$ Hd
    ihave He := (blockIn c dxM t.val gd') $$ He
    sl_exec
    sl_step
    isplitl [HR]; · iexact HR
    isplitl [Hf]
    · iapply (outFly_in c ht (f := f8) rfl (hTdh ▸ hf8)); iexact Hf
    isplitl [Hg]
    · iapply (outFly_in c ht (f := g8) rfl (hTdx ▸ hg8)); iexact Hg
    isplitr; · iempintro
    isplitr; · iempintro
    iexists _; iexact HO

/-- The blocks trips before `k` finished. -/
def doneUp (O : Memref sig .tc .hbm S1536x2560 .bf16) (T : Bf (F := F) c O) : ℕ → sProp 𝕄
  | 0 => iprop(emp)
  | k + 1 => iprop(doneUp O T k ∗ landed c O T k)
/-- The last `n` blocks, at whatever they hold. -/
def todoN (O : Memref sig .tc .hbm S1536x2560 .bf16) : ℕ → sProp 𝕄
  | 0 => iprop(emp)
  | n + 1 => iprop(todoB c O (11 - n) ∗ todoN O n)
theorem pend_next (j : Fin 2) (O : Memref sig .tc .hbm S1536x2560 .bf16) (M : Memref sig .tc .vmem S2x128x2560 .bf16) (T : Bf (F := F) c O) (t : ℕ) :
    pend c j O M T (t + 2) = outFlyT c j t t O M T := by
  unfold pend
  rw [if_pos (by omega : 2 ≤ t + 2), Nat.add_sub_cancel]
  have e1 : outCell j (t + 2) = outCell j t := by unfold outCell; simp only [Nat.add_mod_right]
  have e2 : slotB M (t + 2) = slotB M t := slotB_congr M (by rw [Nat.add_mod_right]) _ (fun _ => rfl)
  unfold outFlyT outFly
  rw [e1, e2]

/-- Before trip `k`. -/
def outerInv (Tdh : Bf (F := F) c dhM) (Tdx : Bf (F := F) c dxM) (k : ℕ) : sProp 𝕄 :=
  iprop(rdP c st facc fhv fst ∗ pend c 0 dhM dhvM Tdh k ∗ pend c 0 dhM dhvM Tdh (k + 1) ∗ pend c 1 dxM dxvM Tdx k ∗ pend c 1 dxM dxvM Tdx (k + 1)
    ∗ todoN c dhM (12 - k) ∗ todoN c dxM (12 - k) ∗ doneUp c dhM Tdh k ∗ doneUp c dxM Tdx k ∗ (∃ W, owes (c : Thread nD τ) 0 W))

theorem outer_step (Tdh : Bf (F := F) c dhM) (Tdx : Bf (F := F) c dxM) (hTdh : dhM.view.read (Elt F) Tdh = tDh c st facc fhv fst) (hTdx : dxM.view.read (Elt F) Tdx = tDx c facc)
    (t : Fin k0_t1_loop.trips) :
    outerInv c st facc fhv fst Tdh Tdx t.val
    ⊢ wp frame (wpE (defs₀ (F := F)) Variants.none (c : Thread nD τ) none) Set.univ (outBody i st hst h6 v743 v744 t)
      (fun _ => outerInv c st facc fhv fst Tdh Tdx (t.val + 1)) := by
  have ht : t.val < 12 := t.isLt
  obtain ⟨n, hn⟩ : ∃ n, 12 - t.val = n + 1 := ⟨11 - t.val, by omega⟩
  have hn' : 12 - (t.val + 1) = n := by omega
  have hn2 : 11 - n = t.val := by omega
  unfold outerInv
  rw [hn, hn', todoN, todoN, doneUp, doneUp, hn2, show t.val + 1 + 1 = t.val + 2 from rfl, pend_next, pend_next]
  iintro ⟨HR, HA, HA', HB, HB', ⟨Ht, HT⟩, ⟨Hu, HU⟩, HD, HE, HO⟩
  iapply (wp_wand_r Idealize.ShloMosaic.frame (wpE (defs₀ (F := F)) Variants.none (c : Thread nD τ) none) Set.univ)
  isplitl [HR HA HB Ht Hu HO]
  · iapply (trip_run c i st hst h6 v743 v744 facc fhv fst Tdh Tdx hTdh hTdx t)
    isplitl [HR]; · iexact HR
    isplitl [HA]; · iexact HA
    isplitl [HB]; · iexact HB
    isplitl [Ht]; · iexact Ht
    isplitl [Hu]; · iexact Hu
    iexact HO
  · iintro %_ ⟨HR, HA, HB, HL, HM, HO⟩
    isplitl [HR]; · iexact HR
    isplitl [HA']; · iexact HA'
    isplitl [HA]; · iexact HA
    isplitl [HB']; · iexact HB'
    isplitl [HB]; · iexact HB
    isplitl [HT]; · iexact HT
    isplitl [HU]; · iexact HU
    isplitl [HD HL]; · isplitl [HD]; · iexact HD
                       iexact HL
    isplitl [HE HM]; · isplitl [HE]; · iexact HE
                       iexact HM
    iexact HO

end Inner

end Cert.KernelIdeal.Hand

end
-- ==== Proof.Split.lean ====
module

public import proofs.«01_k».proof.Proof.Loop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
/-! ## Splitting the results into blocks and the staging buffers into slots, and joining them back -/

variable (c : Dev nD)

theorem outSet_disjoint (O : Memref sig .tc .hbm S1536x2560 .bf16) (b b' : ℕ) (hb : b < 12) (hb' : b' < 12) (h : b ≠ b') : Disjoint (outSet O b) (outSet O b') := by
  rw [Finset.disjoint_left]
  intro z hz hz'
  have hz0 := hz
  rw [outSet_eq] at hz0
  obtain ⟨y, -, rfl⟩ := Finset.mem_map.mp hz0
  rw [mem_outSet] at hz hz'
  omega
theorem outSet_cover (O : Memref sig .tc .hbm S1536x2560 .bf16) (hO : ∀ z : O.view.ty.Idx, ∃ y, O.view.emb y = z) :
    (Finset.range 12).biUnion (outSet O) = Finset.univ := by
  refine Finset.eq_univ_of_forall fun z => ?_
  obtain ⟨y, rfl⟩ := hO z
  have hy : (y 0).val < 1536 := (y 0).isLt
  rw [Finset.mem_biUnion]
  refine ⟨(y 0).val / 128, Finset.mem_range.mpr (by omega), ?_⟩
  rw [mem_outSet]
  omega
theorem blocks_eq (O : Memref sig .tc .hbm S1536x2560 .bf16) (hO : ∀ z : O.view.ty.Idx, ∃ y, O.view.emb y = z) (T : Bf (F := F) c O) :
    (pt c O T : sProp 𝕄) = iprop(doneB c O T 0 ∗ doneB c O T 1 ∗ doneB c O T 2 ∗ doneB c O T 3 ∗ doneB c O T 4 ∗ doneB c O T 5 ∗ doneB c O T 6 ∗ doneB c O T 7
      ∗ doneB c O T 8 ∗ doneB c O T 9 ∗ doneB c O T 10 ∗ doneB c O T 11) := by
  have h1 := pointsTo_biUnion (ℓ := O.view.loc (c : Thread nD τ)) (q := fullShare) (f := T) (Finset.range 12) (outSet O)
    (Ix := Unit) (Name := ℕ) (U := Pipeline.UD sig nD τ) (Lvl := ℕ)
    (fun b hb b' hb' h => outSet_disjoint O b b' (Finset.mem_range.mp hb) (Finset.mem_range.mp hb') h)
  rw [outSet_cover O hO] at h1
  refine h1.trans ?_
  rw [BI.bigSep_eq_bigSepL_of_eq [0, 1, 2, 3, 4, 5, 6, 7, 8, 9, 10, 11] (by decide) (by decide)]
  rfl
theorem todo_split (O : Memref sig .tc .hbm S1536x2560 .bf16) (hO : ∀ z : O.view.ty.Idx, ∃ y, O.view.emb y = z) (T : Bf (F := F) c O) :
    pt c O T ⊢ todoN c O 12 := by
  rw [blocks_eq c O hO T]
  unfold todoN todoN todoN todoN todoN todoN todoN todoN todoN todoN todoN todoN todoN todoB
  iintro ⟨H0, H1, H2, H3, H4, H5, H6, H7, H8, H9, H10, H11⟩
  isplitl [H0]; · iexists T; iexact H0
  isplitl [H1]; · iexists T; iexact H1
  isplitl [H2]; · iexists T; iexact H2
  isplitl [H3]; · iexists T; iexact H3
  isplitl [H4]; · iexists T; iexact H4
  isplitl [H5]; · iexists T; iexact H5
  isplitl [H6]; · iexists T; iexact H6
  isplitl [H7]; · iexists T; iexact H7
  isplitl [H8]; · iexists T; iexact H8
  isplitl [H9]; · iexists T; iexact H9
  isplitl [H10]; · iexists T; iexact H10
  isplitl [H11]; · iexists T; iexact H11
  iempintro
theorem done_join (O : Memref sig .tc .hbm S1536x2560 .bf16) (hO : ∀ z : O.view.ty.Idx, ∃ y, O.view.emb y = z) (T : Bf (F := F) c O) :
    iprop(doneUp c O T 12 ∗ doneB c O T 10 ∗ doneB c O T 11) ⊢ pt c O T := by
  rw [blocks_eq c O hO T]
  have e : ∀ k, landed c O T (k + 2) = doneB c O T k := fun k => by unfold landed; rw [if_pos (by omega : 2 ≤ k + 2), Nat.add_sub_cancel]
  have e0 : landed c O T 0 = iprop(emp) := if_neg (by decide)
  have e1 : landed c O T 1 = iprop(emp) := if_neg (by decide)
  simp only [doneUp, e, e0, e1]
  iintro ⟨⟨⟨⟨⟨⟨⟨⟨⟨⟨⟨⟨⟨-, -⟩, -⟩, H0⟩, H1⟩, H2⟩, H3⟩, H4⟩, H5⟩, H6⟩, H7⟩, H8⟩, H9⟩, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem slots_disjoint (M : Memref sig .tc .vmem S2x128x2560 .bf16) : Disjoint (slotSet M 0) (slotSet M 1) := by
  rw [Finset.disjoint_left]
  intro z hz hz'
  have hz0 := hz
  rw [slotSet_eq] at hz0
  obtain ⟨y, -, rfl⟩ := Finset.mem_map.mp hz0
  rw [mem_slotSet] at hz hz'
  omega
theorem slots_cover (M : Memref sig .tc .vmem S2x128x2560 .bf16) (hM : ∀ z : M.view.ty.Idx, ∃ y, M.view.emb y = z) : slotSet M 0 ∪ slotSet M 1 = Finset.univ := by
  refine Finset.eq_univ_of_forall fun z => ?_
  obtain ⟨y, rfl⟩ := hM z
  have hy : (y 0).val < 2 := (y 0).isLt
  rw [Finset.mem_union, mem_slotSet, mem_slotSet]
  omega
theorem slots_split (M : Memref sig .tc .vmem S2x128x2560 .bf16) (hM : ∀ z : M.view.ty.Idx, ∃ y, M.view.emb y = z) (f : Bf (F := F) c M) :
    pt c M f ⊢ iprop(slotP c M 0 f ∗ slotP c M 1 f) := by
  have h := (pointsTo_union (ℓ := M.view.loc (c : Thread nD τ)) (q := fullShare) (f := f) (Ix := Unit) (Name := ℕ) (U := Pipeline.UD sig nD τ) (Lvl := ℕ) (slots_disjoint M)).1
  rw [slots_cover M hM] at h
  exact h
theorem slots_join (M : Memref sig .tc .vmem S2x128x2560 .bf16) (hM : ∀ z : M.view.ty.Idx, ∃ y, M.view.emb y = z) (f g : Bf (F := F) c M) :
    iprop(slotP c M 0 f ∗ slotP c M 1 g) ⊢ iprop(∃ h, pt c M h) := by
  have h := pointsTo_join (ℓ := M.view.loc (c : Thread nD τ)) (q := fullShare) (f := f) (g := g) (Ix := Unit) (Name := ℕ) (U := Pipeline.UD sig nD τ) (Lvl := ℕ) (slots_disjoint M)
  rw [slots_cover M hM] at h
  iintro H
  iexists _
  iapply h
  iexact H

theorem dhM_whole : ∀ z : dhM.view.ty.Idx, ∃ y, dhM.view.emb y = z := fun z => ⟨z, rfl⟩
theorem dxM_whole : ∀ z : dxM.view.ty.Idx, ∃ y, dxM.view.emb y = z := fun z => ⟨z, rfl⟩
theorem dhvM_whole : ∀ z : dhvM.view.ty.Idx, ∃ y, dhvM.view.emb y = z := fun z => ⟨z, rfl⟩
theorem dxvM_whole : ∀ z : dxvM.view.ty.Idx, ∃ y, dxvM.view.emb y = z := fun z => ⟨z, rfl⟩

end Cert.KernelIdeal.Hand

end
-- ==== Proof.StepD.lean ====
module

public import proofs.«01_k».proof.Proof.WrTile
public import proofs.«01_k».proof.Proof.Split

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The results' arrays, slots and cells at rest. -/
def outIdle (c : Dev nD) : sProp 𝕄 :=
  iprop(any c dhM ∗ any c dxM ∗ any c dhvM ∗ any c dxvM ∗ cell c 14 ∗ cell c 15 ∗ cell c 16 ∗ cell c 17)
/-- The same with the results written. -/
def outDone (c : Dev nD) (X Y : Vec F S1536x2560 .bf16) : sProp 𝕄 :=
  iprop(has c dhM X ∗ has c dxM Y ∗ any c dhvM ∗ any c dxvM ∗ cell c 14 ∗ cell c 15 ∗ cell c 16 ∗ cell c 17)

/-- A slot whose last block is on its way out. -/
theorem pend_last (c : Dev nD) (j : Fin 2) (O : Memref sig .tc .hbm S1536x2560 .bf16) (M : Memref sig .tc .vmem S2x128x2560 .bf16) (T : Bf (F := F) c O)
    (t : ℕ) (n : Fin 18) (h2 : 2 ≤ t) (hn : outCell j t = n) :
    pend c j O M T t ⊢ iprop(∃ (fd : Bf (F := F) c (outB O (t - 2))) (fs : Bf (F := F) c (slotB M t)), ⌜∀ y ∈ (outB O (t - 2)).view.set, fd y = T y⌝
      ∗ Transfers.Flight countersEmb (c : Thread nD τ) (SemLoc.dma n) () 20480
        iprop(((outB O (t - 2)).view.loc (c : Thread nD τ) ↦[(outB O (t - 2)).view.set]{fullShare} fd)
          ∗ ((slotB M t).view.loc (c : Thread nD τ) ↦[(slotB M t).view.set]{fullShare} fs))) := by
  subst hn
  unfold pend outFlyT
  rw [if_pos h2]

theorem slotOut (c : Dev nD) (M : Memref sig .tc .vmem S2x128x2560 .bf16) (t s : ℕ) (h : t % 2 = s % 2) (f : Bf (F := F) c (slotB M t)) :
    ((slotB M t).view.loc (c : Thread nD τ) ↦[(slotB M t).view.set]{fullShare} f : sProp 𝕄) ⊢ slotP c M s f := by
  have e : slotSet M s = slotSet M t := by
    refine Finset.ext fun z => ?_
    rw [slotSet_eq, slotSet_eq]
    simp only [h]
  show _ ⊢ iprop(M.view.loc (c : Thread nD τ) ↦[slotSet M s]{fullShare} f)
  rw [e]
  exact .rfl

theorem pend_low (c : Dev nD) (j : Fin 2) (O : Memref sig .tc .hbm S1536x2560 .bf16) (M : Memref sig .tc .vmem S2x128x2560 .bf16) (T : Bf (F := F) c O)
    (t : ℕ) (n : Fin 18) (h2 : t < 2) (hn : outCell j t = n) (f : Bf (F := F) c M) :
    iprop(slotP c M t f ∗ cell c n) ⊢ pend c j O M T t := by
  subst hn
  unfold pend slotFree
  rw [if_neg (by omega)]
  iintro H
  iexists f
  iexact H

set_option maxHeartbeats 800000 in
set_option sl_exec.dmaWindow true in
/-- The last grid point: the last block's product, then the normalisation's backward pass written out block by block. -/
theorem stepD (c : Dev nD) (i : grid0.Coords) (st : Memref sig .tc .vmem S1x2560 .f32) (hst : st.IsWhole)
    (rest : Prog (TpuEff nD τ sig (Elt F) Λ₀ .tc) PUnit)
    (h6 : k0_cond6 i = 1#1)
    (fdy : Bf (F := F) c dyM) (fw : Bf (F := F) c wM) (fh : Bf (F := F) c hM) (fst : Bf (F := F) c st) (K : PUnit → sProp 𝕄) :
    iprop(stL c fdy fw ∗ hFly c fh ∗ outIdle c ∗ (st.view.loc (c : Thread nD τ) ↦[st.view.set]{fullShare} fst)
      ∗ (stZ c fdy fw ∗ hIdle c fh
          ∗ outDone c (gDh (hM.view.read (Elt F) fh) (accAt c fdy fw 10) (st.view.read (Elt F) fst)) (gDx (accAt c fdy fw 10))
          ∗ (st.view.loc (c : Thread nD τ) ↦[st.view.set]{fullShare} fst)
        -∗ wp frame (wpE (defs₀ (F := F)) Variants.none c none) Set.univ rest K))
    ⊢ wp frame (wpE (defs₀ (F := F)) Variants.none c none) Set.univ (progD (F := F) i st hst rest) K := by
  unfold progD partD stL hFly outIdle
  iintro ⟨⟨Ht1, Ht2, Ht3, Ht4, Ht5, ⟨%fwr1, Hf6⟩, Hr6, Hc1, Hc2, Hc3, Hc4, Hc5, ⟨%fdy0, Hdy0⟩, ⟨%fdy1, Hdy1⟩, ⟨%fwfi0, Hwfi0⟩, ⟨%fwfi1, Hwfi1⟩, ⟨%fwr0, Hwr0⟩, ⟨%fdq1, Hdq1, %hdq1⟩, ⟨%fdq0, Hdq0⟩, ⟨%fwfq1, Hwfq1, %hwfq1⟩, ⟨%fwfq0, Hwfq0⟩, ⟨%facc, Hacc, %hacc⟩, ⟨%W, HO⟩⟩, ⟨⟨%fhv, Hf13⟩, Hr13⟩, ⟨⟨%gdh, Hdh⟩, ⟨%gdx, Hdx⟩, ⟨%gdhv, Hdhv⟩, ⟨%gdxv, Hdxv⟩, Hc14, Hc15, Hc16, Hc17⟩, Hst, HK⟩
  sl_exec
  ihave HA : iprop(has c accM (accAt c fdy fw 10)) $$ [Hacc]
  · iexists _
    isplitl [Hacc]
    · iexact Hacc
    · ipureintro
      have hw : wr1.view.read (Elt F) (View.write (Elt F) wr1.view fwr1 (ReadAs.same.apply (View.read (Elt F) (wrB 9).view fw)) Finset.univ) = wrT c fw 9 :=
        View.read_write_univ _ _
      show _ = stepAcc (qArr (dyT c fdy 9)) (qArr (wfT c fw 9)) (qArr (wrT c fw 9)) (accAt c fdy fw 9)
      rw [← hdq1, ← hwfq1, ← hw, ← hacc]
      refine acc_read _ _ _ _ _ _ _ ?_ (View.cover_of_tiledL _ ![512, 512] (by sl_kernel_rfl))
      refine List.forall_mem_cons.mpr ⟨tile_okR _ _ _ _ 2 4 (by decide) (by decide) (by decide) 1024 2048 1536 rfl rfl rfl inb_S1536x2560_S512x512_1024_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 4 (by decide) (by decide) (by decide) 512 2048 1536 rfl rfl rfl inb_S1536x2560_S512x512_512_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 4 (by decide) (by decide) (by decide) 0 2048 1536 rfl rfl rfl inb_S1536x2560_S512x512_0_2048 inb_S2048x1024_S512x1024_1536_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 3 (by decide) (by decide) (by decide) 1024 1536 1024 rfl rfl rfl inb_S1536x2560_S512x512_1024_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 3 (by decide) (by decide) (by decide) 512 1536 1024 rfl rfl rfl inb_S1536x2560_S512x512_512_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 3 (by decide) (by decide) (by decide) 0 1536 1024 rfl rfl rfl inb_S1536x2560_S512x512_0_1536 inb_S2048x1024_S512x1024_1024_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 2 (by decide) (by decide) (by decide) 1024 1024 512 rfl rfl rfl inb_S1536x2560_S512x512_1024_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 2 (by decide) (by decide) (by decide) 512 1024 512 rfl rfl rfl inb_S1536x2560_S512x512_512_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 2 (by decide) (by decide) (by decide) 0 1024 512 rfl rfl rfl inb_S1536x2560_S512x512_0_1024 inb_S2048x1024_S512x1024_512_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 2 1 (by decide) (by decide) (by decide) 1024 512 0 rfl rfl rfl inb_S1536x2560_S512x512_1024_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 1 1 (by decide) (by decide) (by decide) 512 512 0 rfl rfl rfl inb_S1536x2560_S512x512_512_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_okR _ _ _ _ 0 1 (by decide) (by decide) (by decide) 0 512 0 rfl rfl rfl inb_S1536x2560_S512x512_0_512 inb_S2048x1024_S512x1024_0_0 _ _ _ rfl ?_ ?_ ?_ ?_ ?_, ?_⟩
      · repeat' (first | exact List.forall_mem_nil _ | refine List.forall_mem_cons.mpr ⟨q_ok _ _ _ (by decide) (by decide) _ rfl, ?_⟩)
      · repeat (first | exact has_here | refine has_there ?_)
      · repeat (first | exact has_here | refine has_there ?_)
      · repeat (first | exact has_here | refine has_there ?_)
      · repeat (first | exact has_here | refine has_there ?_)
      refine List.forall_mem_cons.mpr ⟨tile_ok _ _ _ _ 2 0 (by decide) (by decide) 1024 0 rfl rfl inb_S1536x2560_S512x512_1024_0 _ rfl, ?_⟩
      refine List.forall_mem_cons.mpr ⟨tile_ok _ _ _ _ 1 0 (by decide) (by decide) 512 0 rfl rfl inb_S1536x2560_S512x512_512_0 _ rfl, ?_⟩
      refine List.forall_mem_cons.mpr ⟨tile_ok _ _ _ _ 0 0 (by decide) (by decide) 0 0 rfl rfl inb_S1536x2560_S512x512_0_0 _ rfl, ?_⟩
      exact List.forall_mem_nil _
  icases HA with ⟨%facc2, Hacc, %hacc2⟩
  ihave HV : iprop(has c hvM (hM.view.read (Elt F) fh)) $$ [Hf13_dst]
  · iexists _
    isplitl [Hf13_dst]
    · iexact Hf13_dst
    · ipureintro
      exact View.read_write_univ _ _
  icases HV with ⟨%fhv2, Hhv, %hhv2⟩
  ihave Hdhv := (slots_split c dhvM dhvM_whole gdhv) $$ Hdhv
  ihave Hdxv := (slots_split c dxvM dxvM_whole gdxv) $$ Hdxv
  icases Hdhv with ⟨Hs0, Hs1⟩
  icases Hdxv with ⟨Hx0, Hx1⟩
  ihave Hdh := (todo_split c dhM dhM_whole gdh) $$ Hdh
  ihave Hdx := (todo_split c dxM dxM_whole gdx) $$ Hdx
  have hTdh : dhM.view.read (Elt F) (View.write (Elt F) dhM.view gdh (tDh c st facc2 fhv2 fst) Finset.univ) = tDh c st facc2 fhv2 fst := View.read_write_univ _ _
  have hTdx : dxM.view.read (Elt F) (View.write (Elt F) dxM.view gdx (tDx c facc2) Finset.univ) = tDx c facc2 := View.read_write_univ _ _
  generalize View.write (Elt F) dhM.view gdh (tDh c st facc2 fhv2 fst) Finset.univ = Tdh at hTdh
  generalize View.write (Elt F) dxM.view gdx (tDx c facc2) Finset.univ = Tdx at hTdx
  have e12 : Scf.trips k0_t1_loop.lb k0_t1_loop.ub k0_t1_loop.st = 12 := by decide
  sl_for (fun k (_ : Unit) => outerInv c st facc2 fhv2 fst Tdh Tdx k) $$ [Hacc Hhv Hst Hs0 Hs1 Hx0 Hx1 Hdh Hdx Hc14 Hc15 Hc16 Hc17 HO]
  · exact fun r _ => outer_step c i st hst h6 _ _ facc2 fhv2 fst Tdh Tdx hTdh hTdx r
  · unfold outerInv rdP
    isplitl [Hacc Hhv Hst]
    · isplitl [Hacc]
      · iexact Hacc
      isplitl [Hhv]
      · iexact Hhv
      iexact Hst
    isplitl [Hs0 Hc14]
    · iapply (pend_low c 0 dhM dhvM Tdh 0 14 (by decide) rfl gdhv)
      isplitl [Hs0]
      · iexact Hs0
      iexact Hc14
    isplitl [Hs1 Hc15]
    · iapply (pend_low c 0 dhM dhvM Tdh 1 15 (by decide) rfl gdhv)
      isplitl [Hs1]
      · iexact Hs1
      iexact Hc15
    isplitl [Hx0 Hc16]
    · iapply (pend_low c 1 dxM dxvM Tdx 0 16 (by decide) rfl gdxv)
      isplitl [Hx0]
      · iexact Hx0
      iexact Hc16
    isplitl [Hx1 Hc17]
    · iapply (pend_low c 1 dxM dxvM Tdx 1 17 (by decide) rfl gdxv)
      isplitl [Hx1]
      · iexact Hx1
      iexact Hc17
    isplitl [Hdh]
    · iexact Hdh
    isplitl [Hdx]
    · iexact Hdx
    isplitr
    · unfold doneUp; iempintro
    isplitr
    · unfold doneUp; iempintro
    iexists _; iexact HO
  iintro %_ HI
  rw [e12]
  unfold outerInv rdP
  icases HI with ⟨⟨Hacc, Hhv, Hst⟩, HA0, HA1, HB0, HB1, -, -, HD, HE, ⟨%W2, HO⟩⟩
  ihave HA0 := (pend_last c 0 dhM dhvM Tdh 12 14 (by decide) rfl) $$ HA0
  ihave HA1 := (pend_last c 0 dhM dhvM Tdh 13 15 (by decide) rfl) $$ HA1
  ihave HB0 := (pend_last c 1 dxM dxvM Tdx 12 16 (by decide) rfl) $$ HB0
  ihave HB1 := (pend_last c 1 dxM dxvM Tdx 13 17 (by decide) rfl) $$ HB1
  icases HA0 with ⟨%fd0, %fs0, %hfd0, Ha0⟩
  icases HA1 with ⟨%fd1, %fs1, %hfd1, Ha1⟩
  icases HB0 with ⟨%fe0, %ft0, %hfe0, Hb0⟩
  icases HB1 with ⟨%fe1, %ft1, %hfe1, Hb1⟩
  sl_exec
  ihave HW : iprop(has c dhM (gDh (hM.view.read (Elt F) fh) (accAt c fdy fw 10) (st.view.read (Elt F) fst))) $$ [HD Ha0_dst Ha1_dst]
  · iexists Tdh
    isplitl [HD Ha0_dst Ha1_dst]
    · iapply (done_join c dhM dhM_whole Tdh)
      isplitl [HD]
      · iexact HD
      isplitl [Ha0_dst]
      · iapply (landed_of c hfd0); iexact Ha0_dst
      · iapply (landed_of c hfd1); iexact Ha1_dst
    · ipureintro
      rw [hTdh]
      show gDh (hvM.view.read (Elt F) fhv2) (accM.view.read (Elt F) facc2) _ = _
      rw [hhv2, hacc2]
  ihave HX : iprop(has c dxM (gDx (accAt c fdy fw 10))) $$ [HE Hb0_dst Hb1_dst]
  · iexists Tdx
    isplitl [HE Hb0_dst Hb1_dst]
    · iapply (done_join c dxM dxM_whole Tdx)
      isplitl [HE]
      · iexact HE
      isplitl [Hb0_dst]
      · iapply (landed_of c hfe0); iexact Hb0_dst
      · iapply (landed_of c hfe1); iexact Hb1_dst
    · ipureintro
      rw [hTdx]
      show gDx (accM.view.read (Elt F) facc2) = _
      rw [hacc2]
  ihave HY : iprop(any c dhvM) $$ [Ha0_src Ha1_src]
  · iapply (slots_join c dhvM dhvM_whole fs0 fs1)
    isplitl [Ha0_src]
    · iapply (slotOut c dhvM 12 0 rfl fs0); iexact Ha0_src
    · iapply (slotOut c dhvM 13 1 rfl fs1); iexact Ha1_src
  ihave HZ : iprop(any c dxvM) $$ [Hb0_src Hb1_src]
  · iapply (slots_join c dxvM dxvM_whole ft0 ft1)
    isplitl [Hb0_src]
    · iapply (slotOut c dxvM 12 0 rfl ft0); iexact Hb0_src
    · iapply (slotOut c dxvM 13 1 rfl ft1); iexact Hb1_src
  iapply HK
  isplitr [Hhv Hr13 Hf13 HW HX HY HZ Ha0 Ha1 Hb0 Hb1 Hst]
  · unfold stZ
    isplitl [Ht1]
    · iexact Ht1
    isplitl [Ht2]
    · iexact Ht2
    isplitl [Ht3]
    · iexact Ht3
    isplitl [Ht4]
    · iexact Ht4
    isplitl [Ht5]
    · iexact Ht5
    isplitl [Hr6]
    · iexact Hr6
    isplitl [Hc1]
    · iexact Hc1
    isplitl [Hc2]
    · iexact Hc2
    isplitl [Hc3]
    · iexact Hc3
    isplitl [Hc4]
    · iexact Hc4
    isplitl [Hc5]
    · iexact Hc5
    isplitl [Hf6]
    · iexact Hf6
    isplitl [Hdy0]
    · iexists _; iexact Hdy0
    isplitl [Hdy1]
    · iexists _; iexact Hdy1
    isplitl [Hwfi0]
    · iexists _; iexact Hwfi0
    isplitl [Hwfi1]
    · iexists _; iexact Hwfi1
    isplitl [Hwr0]
    · iexists _; iexact Hwr0
    isplitl [Hf6_dst]
    · iexists _; iexact Hf6_dst
    isplitl [Hdq0]
    · iexists _; iexact Hdq0
    isplitl [Hdq1]
    · iexists _; iexact Hdq1
    isplitl [Hwfq0]
    · iexists _; iexact Hwfq0
    isplitl [Hwfq1]
    · iexists _; iexact Hwfq1
    isplitl [Hacc]
    · iexists _; iexact Hacc
    iexists _; iexact HO
  isplitl [Hhv Hr13 Hf13]
  · unfold hIdle
    isplitl [Hr13]
    · iexact Hr13
    isplitl [Hf13]
    · iexact Hf13
    iexists _; iexact Hhv
  isplitr [Hst]
  · unfold outDone
    isplitl [HW]
    · iexact HW
    isplitl [HX]
    · iexact HX
    isplitl [HY]
    · iexact HY
    isplitl [HZ]
    · iexact HZ
    isplitl [Ha0]
    · iexact Ha0
    isplitl [Ha1]
    · iexact Ha1
    isplitl [Hb0]
    · iexact Hb0
    iexact Hb1
  iexact Hst

end Cert.KernelIdeal.Hand

end
-- ==== Proof.Body.lean ====
module

public import proofs.«01_k».proof.Proof.State
public import proofs.«01_k».proof.Proof.StepA
public import proofs.«01_k».proof.Proof.StepE
public import proofs.«01_k».proof.Proof.StepL
public import proofs.«01_k».proof.Proof.StepO
public import proofs.«01_k».proof.Proof.StepD

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
/-! # One grid point -/

/-- What is held before grid point `n` of ten, apart from the waits' record; after the last one the results are written. -/
def inv (c : Dev nD) (n : ℕ) (fdy : Bf (F := F) c dyM) (fw : Bf (F := F) c wM) (fh : Bf (F := F) c hM) (X Y : Vec F S1536x2560 .bf16) : sProp 𝕄 :=
  if n = 0 then iprop(stZh c fdy fw ∗ rowToks c fdy ∗ hIdle c fh ∗ outIdle c)
  else if n = 10 then iprop(stZh c fdy fw ∗ rowToks c fdy ∗ hIdle c fh ∗ outDone c X Y)
  else if n = 9 then iprop(stLh c fdy fw ∗ rowToks c fdy ∗ hFly c fh ∗ outIdle c)
  else if n % 2 = 0 then iprop(stEh c n fdy fw ∗ rowToks c fdy ∗ hFly c fh ∗ outIdle c)
  else iprop(stOh c n fdy fw ∗ rowToks c fdy ∗ hFly c fh ∗ outIdle c)

theorem inv_zero (c : Dev nD) (fdy : Bf (F := F) c dyM) (fw : Bf (F := F) c wM) (fh : Bf (F := F) c hM) (X Y : Vec F S1536x2560 .bf16) :
    inv c 0 fdy fw fh X Y = iprop(stZh c fdy fw ∗ rowToks c fdy ∗ hIdle c fh ∗ outIdle c) := by unfold inv; rw [if_pos rfl]
theorem inv_ten (c : Dev nD) (fdy : Bf (F := F) c dyM) (fw : Bf (F := F) c wM) (fh : Bf (F := F) c hM) (X Y : Vec F S1536x2560 .bf16) :
    inv c 10 fdy fw fh X Y = iprop(stZh c fdy fw ∗ rowToks c fdy ∗ hIdle c fh ∗ outDone c X Y) := by unfold inv; rw [if_neg (by decide), if_pos rfl]
theorem inv_nine (c : Dev nD) (fdy : Bf (F := F) c dyM) (fw : Bf (F := F) c wM) (fh : Bf (F := F) c hM) (X Y : Vec F S1536x2560 .bf16) :
    inv c 9 fdy fw fh X Y = iprop(stLh c fdy fw ∗ rowToks c fdy ∗ hFly c fh ∗ outIdle c) := by
  unfold inv; rw [if_neg (by decide), if_neg (by decide), if_pos rfl]
theorem inv_even (c : Dev nD) (n : ℕ) (h0 : n ≠ 0) (h : n < 9) (h2 : n % 2 = 0) (fdy : Bf (F := F) c dyM) (fw : Bf (F := F) c wM) (fh : Bf (F := F) c hM) (X Y : Vec F S1536x2560 .bf16) :
    inv c n fdy fw fh X Y = iprop(stEh c n fdy fw ∗ rowToks c fdy ∗ hFly c fh ∗ outIdle c) := by
  unfold inv; rw [if_neg h0, if_neg (by omega), if_neg (by omega), if_pos h2]
theorem inv_odd (c : Dev nD) (n : ℕ) (h : n < 9) (h2 : n % 2 = 1) (fdy : Bf (F := F) c dyM) (fw : Bf (F := F) c wM) (fh : Bf (F := F) c hM) (X Y : Vec F S1536x2560 .bf16) :
    inv c n fdy fw fh X Y = iprop(stOh c n fdy fw ∗ rowToks c fdy ∗ hFly c fh ∗ outIdle c) := by
  unfold inv; rw [if_neg (by omega), if_neg (by omega), if_neg (by omega), if_neg (by omega)]

/-- Every grid point takes the state before it to the state before the next one, and the last one writes the results. -/
theorem point (c : Dev nD) (t : Fin cfg0.N) (st : Memref sig .tc .vmem S1x2560 .f32) (hst : st.IsWhole)
    (fdy : Bf (F := F) c dyM) (fw : Bf (F := F) c wM) (fh : Bf (F := F) c hM) (fst : Bf (F := F) c st) (X Y : Vec F S1536x2560 .bf16)
    (hX : t.val = 9 → X = gDh (hM.view.read (Elt F) fh) (accAt c fdy fw 10) (st.view.read (Elt F) fst)) (hY : Y = gDx (accAt c fdy fw 10)) (K : PUnit → sProp 𝕄) :
    iprop(inv c t.val fdy fw fh X Y ∗ ow c ∗ (st.view.loc (c : Thread nD τ) ↦[st.view.set]{fullShare} fst)
      ∗ (inv c (t.val + 1) fdy fw fh X Y ∗ ow c ∗ (st.view.loc (c : Thread nD τ) ↦[st.view.set]{fullShare} fst) -∗ K ⟨⟩))
    ⊢ wp frame (wpE (defs₀ (F := F)) Variants.none c none) Set.univ (body (F := F) (grid0.coords t) st hst) K := by
  have hb := blk_at t
  have ht : t.val < 10 := t.isLt
  rw [body_eq]
  by_cases h0 : t.val = 0
  · -- the first point
    have hb0 : blk (grid0.coords t) = 0 := hb.trans h0
    rw [skipC _ _ _ _ (fun h => by have := (cond4_at t).mp h; omega), skipD _ _ _ _ (fun h => by have := (cond6_at t).mp h; omega)]
    rw [h0, inv_zero, inv_odd c (0 + 1) (by omega) (by omega)]
    iintro ⟨⟨Hz, Hr, Hh, Ho⟩, Hw, Hst, HK⟩
    iapply (stepA c _ st hst _ ((cond1_at t).mpr h0) fdy fw fh K)
    rw [stZ_eq]
    isplitl [Hz Hw]
    · isplitl [Hz]; · iexact Hz
      iexact Hw
    isplitl [Hr]; · iexact Hr
    isplitl [Hh]; · iexact Hh
    iintro ⟨He, Hr, Hh⟩
    iapply (stepB c _ st hst _ ((cond2_at t).mpr (by omega)) ((cond3_at t).mpr (by omega)) (by omega) (by omega) fdy fw K)
    rw [hb0, stO_eq]
    isplitl [He]; · iexact He
    iintro ⟨Hs, Hw⟩
    sl_step
    iapply HK
    isplitl [Hs Hr Hh Ho]
    · isplitl [Hs]; · iexact Hs
      isplitl [Hr]; · iexact Hr
      isplitl [Hh]; · iexact Hh
      iexact Ho
    isplitl [Hw]; · iexact Hw
    iexact Hst
  rw [skipA _ _ _ _ (fun h => h0 ((cond1_at t).mp h))]
  by_cases h9 : t.val = 9
  · -- the last point
    rw [skipB _ _ _ _ (fun h => by have := (cond2_at t).mp h; omega), skipC _ _ _ _ (fun h => by have := (cond4_at t).mp h; omega)]
    rw [h9, inv_nine, show 9 + 1 = 10 from rfl, inv_ten]
    obtain rfl := hX h9
    subst hY
    iintro ⟨⟨Hz, Hr, Hh, Ho⟩, Hw, Hst, HK⟩
    iapply (stepD c _ st hst _ ((cond6_at t).mpr h9) fdy fw fh fst K)
    rw [stL_eq, stZ_eq]
    isplitl [Hz Hw]
    · isplitl [Hz]; · iexact Hz
      iexact Hw
    isplitl [Hh]; · iexact Hh
    isplitl [Ho]; · iexact Ho
    isplitl [Hst]; · iexact Hst
    iintro ⟨⟨Hz, Hw⟩, Hh, Ho, Hst⟩
    sl_step
    iapply HK
    isplitl [Hz Hr Hh Ho]
    · isplitl [Hz]; · iexact Hz
      isplitl [Hr]; · iexact Hr
      isplitl [Hh]; · iexact Hh
      iexact Ho
    isplitl [Hw]; · iexact Hw
    iexact Hst
  rw [skipD _ _ _ _ (fun h => h9 ((cond6_at t).mp h))]
  by_cases h2 : t.val % 2 = 0
  · rw [skipC _ _ _ _ (fun h => by have := (cond4_at t).mp h; omega)]
    by_cases h8 : t.val = 8
    · -- the last even point
      rw [h8, inv_even c 8 (by omega) (by omega) (by omega), show 8 + 1 = 9 from rfl, inv_nine]
      have hb8 : blk (grid0.coords t) = 8 := hb.trans h8
      iintro ⟨⟨Hz, Hr, Hh, Ho⟩, Hw, Hst, HK⟩
      iapply (stepB8 c _ st hst _ ((cond2_at t).mpr h2) (fun h => by have := (cond3_at t).mp h; omega) hb8 (by omega) fdy fw K)
      rw [hb8, stE_eq, stL_eq]
      isplitl [Hz Hw]
      · isplitl [Hz]; · iexact Hz
        iexact Hw
      iintro ⟨Hs, Hw⟩
      sl_step
      iapply HK
      isplitl [Hs Hr Hh Ho]
      · isplitl [Hs]; · iexact Hs
        isplitl [Hr]; · iexact Hr
        isplitl [Hh]; · iexact Hh
        iexact Ho
      isplitl [Hw]; · iexact Hw
      iexact Hst
    · -- the other even points
      rw [inv_even c t.val h0 (by omega) h2, inv_odd c (t.val + 1) (by omega) (by omega)]
      iintro ⟨⟨Hz, Hr, Hh, Ho⟩, Hw, Hst, HK⟩
      iapply (stepB c _ st hst _ ((cond2_at t).mpr h2) ((cond3_at t).mpr (by omega)) (by omega) (by omega) fdy fw K)
      rw [hb, stE_eq, stO_eq]
      isplitl [Hz Hw]
      · isplitl [Hz]; · iexact Hz
        iexact Hw
      iintro ⟨Hs, Hw⟩
      sl_step
      iapply HK
      isplitl [Hs Hr Hh Ho]
      · isplitl [Hs]; · iexact Hs
        isplitl [Hr]; · iexact Hr
        isplitl [Hh]; · iexact Hh
        iexact Ho
      isplitl [Hw]; · iexact Hw
      iexact Hst
  · -- the odd points
    rw [skipB _ _ _ _ (fun h => h2 ((cond2_at t).mp h))]
    rw [inv_odd c t.val (by omega) (by omega), inv_even c (t.val + 1) (by omega) (by omega) (by omega)]
    iintro ⟨⟨Hz, Hr, Hh, Ho⟩, Hw, Hst, HK⟩
    iapply (stepC c _ st hst _ ((cond4_at t).mpr ⟨by omega, by omega⟩) ((cond5_at t).mpr (by omega)) (by omega) (by omega) fdy fw K)
    rw [hb, stO_eq, stE_eq]
    isplitl [Hz Hw]
    · isplitl [Hz]; · iexact Hz
      iexact Hw
    iintro ⟨Hs, Hw⟩
    sl_step
    iapply HK
    isplitl [Hs Hr Hh Ho]
    · isplitl [Hs]; · iexact Hs
      isplitl [Hr]; · iexact Hr
      isplitl [Hh]; · iexact Hh
      iexact Ho
    isplitl [Hw]; · iexact Hw
    iexact Hst

end Cert.KernelIdeal.Hand

end
-- ==== Proof.Ends.lean ====
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
open Idealize.ShloMosaic.Pipeline (Dat Cfg Window BodyObligation cellOf)

variable (m : (ℓ : Loc nD τ sig) → Buf (Elt F) ℓ) (ρ : Dev nD → PrngReg)

/-! # The launch -/

/-- The body's own semaphore cells. -/
abbrev osem0 : Fin 17 → SemLoc sig := fun j =>
  (![SemLoc.dma 1, SemLoc.dma 2, SemLoc.dma 3, SemLoc.dma 4, SemLoc.dma 5, SemLoc.dma 6, SemLoc.dma 7, SemLoc.dma 8, SemLoc.dma 9,
     SemLoc.dma 10, SemLoc.dma 11, SemLoc.dma 12, SemLoc.dma 13, SemLoc.dma 14, SemLoc.dma 15, SemLoc.dma 16, SemLoc.dma 17] : Fin 17 → SemLoc sig) j
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = iprop(cell c 1 ∗ cell c 2 ∗ cell c 3 ∗ cell c 4 ∗ cell c 5 ∗ cell c 6 ∗ cell c 7 ∗ cell c 8 ∗ cell c 9 ∗ cell c 10 ∗ cell c 11
          ∗ cell c 12 ∗ cell c 13 ∗ cell c 14 ∗ cell c 15 ∗ cell c 16 ∗ cell c 17) := by
  rw [Pipeline.ownSems0_eq_of_list c osem0 [0, 1, 2, 3, 4, 5, 6, 7, 8, 9, 10, 11, 12, 13, 14, 15, 16] (by decide) (by decide)]; rfl

/-- The arrays the body's transfers read. -/
def H0 : Finset (Ref sig .tc) := {main_v0, main_arg1, main_v1}
theorem H0_sub : H0 ⊆ Pipeline.restRefs sig spec0 := by decide
theorem reads_eq (c : Dev nD) :
    (bigSep H0 (fun b => ((c : Thread nD τ).loc b) ↦{fullShare} V m c b) : sProp 𝕄)
      = iprop(pt c dyM (V m c main_v0) ∗ pt c wM (V m c main_arg1) ∗ pt c hM (V m c main_v1)) := by
  rw [BI.bigSep_eq_bigSepL_of_eq [main_v0, main_arg1, main_v1] (by decide) (by decide)]; rfl

/-- The arrays they write. -/
def R0 : Finset (Ref sig .tc) := {main_v3_0, main_v3_1}
theorem R0_sub : R0 ⊆ Pipeline.restRefs sig spec0 \ H0 := by decide
theorem routed_results (c : Dev nD) (G : (b : Ref sig .tc) → Buf (Elt F) ((c : Thread nD τ).loc b)) :
    (Pipeline.routed R0 c G : sProp 𝕄) = iprop(pt c dhM (G main_v3_0) ∗ pt c dxM (G main_v3_1)) := by
  unfold Pipeline.routed
  rw [BI.bigSep_eq_bigSepL_of_eq [main_v3_0, main_v3_1] (by decide) (by decide)]; rfl

/-- The body's buffers, at anything. -/
theorem scratch_eq (c : Dev nD) :
    (Pipeline.scopedRest (Ix := Unit) (Name := ℕ) (U := Pipeline.UD sig nD τ) (Lvl := ℕ) (Val := Elt F) spec0 c : sProp 𝕄)
      = iprop(any c dyin0 ∗ any c dyin1 ∗ any c dq0 ∗ any c dq1 ∗ any c wfi0 ∗ any c wfi1 ∗ any c wfq0 ∗ any c wfq1 ∗ any c wr0 ∗ any c wr1
          ∗ any c accM ∗ any c hvM ∗ any c dhvM ∗ any c dxvM) := by
  rw [scopedRest0_eq]

/-- An array as its remainder and its eighteen read tokens. -/
theorem toks_eq (c : Dev nD) {sp : Space} {S : Shape} {e : EltTy} (M : Memref sig .tc sp S e) (f : Bf (F := F) c M) :
    pt c M f = iprop((M.view.loc (c : Thread nD τ) ↦{Transfers.shareDrop fullShare 18} f)
      ∗ tok c M 0 f ∗ tok c M 1 f ∗ tok c M 2 f ∗ tok c M 3 f ∗ tok c M 4 f ∗ tok c M 5 f ∗ tok c M 6 f ∗ tok c M 7 f ∗ tok c M 8 f
      ∗ tok c M 9 f ∗ tok c M 10 f ∗ tok c M 11 f ∗ tok c M 12 f ∗ tok c M 13 f ∗ tok c M 14 f ∗ tok c M 15 f ∗ tok c M 16 f ∗ tok c M 17 f) := by
  refine (BI.Entails.antisymm (Transfers.pointsTo_toks_split fullShare 18) (Transfers.pointsTo_toks_join fullShare 18)).trans ?_
  rw [bigSep_univ_eq_bigSepL [(0 : Fin 18), 1, 2, 3, 4, 5, 6, 7, 8, 9, 10, 11, 12, 13, 14, 15, 16, 17] (by decide) (by decide)]; rfl

/-- The tokens no transfer uses, and the generator register. -/
def side (c : Dev nD) (fdy : Bf (F := F) c dyM) (fw : Bf (F := F) c wM) : sProp 𝕄 :=
  iprop((dyM.view.loc (c : Thread nD τ) ↦{Transfers.shareDrop fullShare 18} fdy) ∗ tok c dyM 0 fdy ∗ tok c dyM 3 fdy ∗ tok c dyM 4 fdy
    ∗ tok c dyM 5 fdy ∗ tok c dyM 6 fdy ∗ tok c dyM 13 fdy ∗ tok c dyM 14 fdy ∗ tok c dyM 15 fdy ∗ tok c dyM 16 fdy ∗ tok c dyM 17 fdy
    ∗ (wM.view.loc (c : Thread nD τ) ↦{Transfers.shareDrop fullShare 18} fw) ∗ tok c wM 0 fw ∗ tok c wM 1 fw ∗ tok c wM 2 fw
    ∗ tok c wM 7 fw ∗ tok c wM 8 fw ∗ tok c wM 9 fw ∗ tok c wM 10 fw ∗ tok c wM 11 fw ∗ tok c wM 12 fw ∗ tok c wM 13 fw ∗ tok c wM 14 fw
    ∗ tok c wM 15 fw ∗ tok c wM 16 fw ∗ tok c wM 17 fw ∗ (∃ r, prngReg c r))

/-- What the launch hands over is the first point's state beside what no point uses. -/
theorem enter (c : Dev nD) (fdy : Bf (F := F) c dyM) (fw : Bf (F := F) c wM) (fh : Bf (F := F) c hM) (f1 : Bf (F := F) c dhM) (f2 : Bf (F := F) c dxM) :
    iprop((any c dyin0 ∗ any c dyin1 ∗ any c dq0 ∗ any c dq1 ∗ any c wfi0 ∗ any c wfi1 ∗ any c wfq0 ∗ any c wfq1 ∗ any c wr0 ∗ any c wr1
          ∗ any c accM ∗ any c hvM ∗ any c dhvM ∗ any c dxvM)
        ∗ (∃ r, prngReg c r)
        ∗ (cell c 1 ∗ cell c 2 ∗ cell c 3 ∗ cell c 4 ∗ cell c 5 ∗ cell c 6 ∗ cell c 7 ∗ cell c 8 ∗ cell c 9 ∗ cell c 10 ∗ cell c 11
          ∗ cell c 12 ∗ cell c 13 ∗ cell c 14 ∗ cell c 15 ∗ cell c 16 ∗ cell c 17)
        ∗ (pt c dyM fdy ∗ pt c wM fw ∗ pt c hM fh) ∗ (pt c dhM f1 ∗ pt c dxM f2))
      ⊢ iprop((stZh c fdy fw ∗ rowToks c fdy ∗ hIdle c fh ∗ outIdle c) ∗ side c fdy fw) := by
  rw [toks_eq c dyM, toks_eq c wM]
  unfold stZh rowToks hIdle outIdle side
  iintro ⟨⟨B0, B1, B2, B3, B4, B5, B6, B7, B8, B9, B10, B11, B12, B13⟩, Hg, ⟨C1, C2, C3, C4, C5, C6, C7, C8, C9, C10, C11, C12, C13, C14, C15, C16, C17⟩,
    ⟨⟨Dr, D0, D1, D2, D3, D4, D5, D6, D7, D8, D9, D10, D11, D12, D13, D14, D15, D16, D17⟩,
     ⟨Wr, W0, W1, W2, W3, W4, W5, W6, W7, W8, W9, W10, W11, W12, W13, W14, W15, W16, W17⟩, Hh⟩, ⟨R1, R2⟩⟩
  isplitr [Dr D0 D3 D4 D5 D6 D13 D14 D15 D16 D17 Wr W0 W1 W2 W7 W8 W9 W10 W11 W12 W13 W14 W15 W16 W17 Hg]
  · isplitl [D1 D2 W3 W4 W5 W6 C1 C2 C3 C4 C5 C6 B0 B1 B2 B3 B4 B5 B6 B7 B8 B9 B10]
    · isplitl [D1]; · iexact D1
      isplitl [D2]; · iexact D2
      isplitl [W3]; · iexact W3
      isplitl [W4]; · iexact W4
      isplitl [W5]; · iexact W5
      isplitl [W6]; · iexact W6
      isplitl [C1]; · iexact C1
      isplitl [C2]; · iexact C2
      isplitl [C3]; · iexact C3
      isplitl [C4]; · iexact C4
      isplitl [C5]; · iexact C5
      isplitl [C6]; · iexact C6
      isplitl [B0]; · iexact B0
      isplitl [B1]; · iexact B1
      isplitl [B4]; · iexact B4
      isplitl [B5]; · iexact B5
      isplitl [B8]; · iexact B8
      isplitl [B9]; · iexact B9
      isplitl [B2]; · iexact B2
      isplitl [B3]; · iexact B3
      isplitl [B6]; · iexact B6
      isplitl [B7]; · iexact B7
      iexact B10
    isplitl [D7 D8 D9 D10 D11 D12 C7 C8 C9 C10 C11 C12]
    · isplitl [D7]; · iexact D7
      isplitl [D8]; · iexact D8
      isplitl [D9]; · iexact D9
      isplitl [D10]; · iexact D10
      isplitl [D11]; · iexact D11
      isplitl [D12]; · iexact D12
      isplitl [C7]; · iexact C7
      isplitl [C8]; · iexact C8
      isplitl [C9]; · iexact C9
      isplitl [C10]; · iexact C10
      isplitl [C11]; · iexact C11
      iexact C12
    isplitl [Hh C13 B11]
    · isplitl [Hh]; · iexact Hh
      isplitl [C13]; · iexact C13
      iexact B11
    isplitl [R1]
    · iexists f1; iexact R1
    isplitl [R2]
    · iexists f2; iexact R2
    isplitl [B12]; · iexact B12
    isplitl [B13]; · iexact B13
    isplitl [C14]; · iexact C14
    isplitl [C15]; · iexact C15
    isplitl [C16]; · iexact C16
    iexact C17
  isplitl [Dr]; · iexact Dr
  isplitl [D0]; · iexact D0
  isplitl [D3]; · iexact D3
  isplitl [D4]; · iexact D4
  isplitl [D5]; · iexact D5
  isplitl [D6]; · iexact D6
  isplitl [D13]; · iexact D13
  isplitl [D14]; · iexact D14
  isplitl [D15]; · iexact D15
  isplitl [D16]; · iexact D16
  isplitl [D17]; · iexact D17
  isplitl [Wr]; · iexact Wr
  isplitl [W0]; · iexact W0
  isplitl [W1]; · iexact W1
  isplitl [W2]; · iexact W2
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  iexact Hg

/-- After the last point everything is back, the results written. -/
theorem leave (c : Dev nD) (fdy : Bf (F := F) c dyM) (fw : Bf (F := F) c wM) (fh : Bf (F := F) c hM) (X Y : Vec F S1536x2560 .bf16) :
    iprop((stZh c fdy fw ∗ rowToks c fdy ∗ hIdle c fh ∗ outDone c X Y) ∗ side c fdy fw)
      ⊢ iprop((any c dyin0 ∗ any c dyin1 ∗ any c dq0 ∗ any c dq1 ∗ any c wfi0 ∗ any c wfi1 ∗ any c wfq0 ∗ any c wfq1 ∗ any c wr0 ∗ any c wr1
          ∗ any c accM ∗ any c hvM ∗ any c dhvM ∗ any c dxvM)
        ∗ (∃ r, prngReg c r)
        ∗ (cell c 1 ∗ cell c 2 ∗ cell c 3 ∗ cell c 4 ∗ cell c 5 ∗ cell c 6 ∗ cell c 7 ∗ cell c 8 ∗ cell c 9 ∗ cell c 10 ∗ cell c 11
          ∗ cell c 12 ∗ cell c 13 ∗ cell c 14 ∗ cell c 15 ∗ cell c 16 ∗ cell c 17)
        ∗ (pt c dyM fdy ∗ pt c wM fw ∗ pt c hM fh) ∗ (pt c dhM X ∗ pt c dxM Y)) := by
  rw [toks_eq c dyM, toks_eq c wM]
  unfold stZh rowToks hIdle outDone side
  iintro ⟨⟨⟨D1, D2, W3, W4, W5, W6, C1, C2, C3, C4, C5, C6, B0, B1, B4, B5, B8, B9, B2, B3, B6, B7, B10⟩,
    ⟨D7, D8, D9, D10, D11, D12, C7, C8, C9, C10, C11, C12⟩, ⟨Hh, C13, B11⟩, ⟨⟨%f1, R1, %h1⟩, ⟨%f2, R2, %h2⟩, B12, B13, C14, C15, C16, C17⟩⟩,
    ⟨Dr, D0, D3, D4, D5, D6, D13, D14, D15, D16, D17, Wr, W0, W1, W2, W7, W8, W9, W10, W11, W12, W13, W14, W15, W16, W17, Hg⟩⟩
  have e1 : f1 = X := h1
  have e2 : f2 = Y := h2
  subst e1 e2
  isplitl [B0 B1 B2 B3 B4 B5 B6 B7 B8 B9 B10 B11 B12 B13]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  isplitl [Hg]
  · iexact Hg
  isplitl [C1 C2 C3 C4 C5 C6 C7 C8 C9 C10 C11 C12 C13 C14 C15 C16 C17]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    iexact C17
  isplitr [R1 R2]
  · isplitl [Dr D0 D1 D2 D3 D4 D5 D6 D7 D8 D9 D10 D11 D12 D13 D14 D15 D16 D17]
    · isplitl [Dr]; · iexact Dr
      isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      iexact D17
    isplitl [Wr W0 W1 W2 W3 W4 W5 W6 W7 W8 W9 W10 W11 W12 W13 W14 W15 W16 W17]
    · isplitl [Wr]; · iexact Wr
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexact W8
      isplitl [W9]; · iexact W9
      isplitl [W10]; · iexact W10
      isplitl [W11]; · iexact W11
      isplitl [W12]; · iexact W12
      isplitl [W13]; · iexact W13
      isplitl [W14]; · iexact W14
      isplitl [W15]; · iexact W15
      isplitl [W16]; · iexact W16
      iexact W17
    iexact Hh
  isplitl [R1]
  · iexact R1
  iexact R2

end Cert.KernelIdeal.Hand

end
-- ==== Proof.Run.lean ====
module

public import proofs.«01_k».proof.Proof.Ends

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
open Idealize.ShloMosaic.Pipeline (Dat Cfg Window BodyObligation cellOf)

variable (m : (ℓ : Loc nD τ sig) → Buf (Elt F) ℓ) (ρ : Dev nD → PrngReg)

/-! # The run -/

/-- The gain's one block. -/
def gainV (c : Dev nD) : Vec F S1x2560 .f32 := iblk m c 0 t0_9
theorem gain_at (c : Dev nD) : ∀ t : Fin cfg0.N, t.val = 9 → iblk m c 0 t = gainV m c := fun t ht => by
  obtain rfl : t = t0_9 := Fin.ext ht
  rfl

/-- The accumulated product of the whole run. -/
def dxAcc (c : Dev nD) : Vec F S1536x2560 .f32 := accAt c (V m c main_v0) (V m c main_arg1) 10
/-- The first result. -/
def dhOut (c : Dev nD) : Vec F S1536x2560 .bf16 := gDh (hM.view.read (Elt F) (V m c main_v1)) (dxAcc m c) (gainV m c)
/-- The second result. -/
def dxOut (c : Dev nD) : Vec F S1536x2560 .bf16 := gDx (dxAcc m c)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := iprop(inv c t.val (V m c main_v0) (V m c main_arg1) (V m c main_v1) (dhOut m c) (dxOut m c) ∗ side c (V m c main_v0) (V m c main_arg1))
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
/-- The gain's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; try rfl)

/-- The gain's staging buffer at point `t`. -/
abbrev gst (t : Fin cfg0.N) : Memref sig .tc .vmem S1x2560 .f32 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (gst t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (gst t) fullShare ((dats m 0 c).after 0 t))

theorem point_any (c : Dev nD) (t : Fin cfg0.N) (st : Memref sig .tc .vmem S1x2560 .f32) (hst : st.IsWhole)
    (fst : Bf (F := F) c st) (hf : st.view.read (Elt F) fst = iblk m c 0 t) (K : PUnit → sProp 𝕄) :
    iprop(inv c t.val (V m c main_v0) (V m c main_arg1) (V m c main_v1) (dhOut m c) (dxOut m c) ∗ ow c ∗ (st.view.loc (c : Thread nD τ) ↦[st.view.set]{fullShare} fst)
      ∗ (inv c (t.val + 1) (V m c main_v0) (V m c main_arg1) (V m c main_v1) (dhOut m c) (dxOut m c) ∗ ow c ∗ (st.view.loc (c : Thread nD τ) ↦[st.view.set]{fullShare} fst) -∗ K ⟨⟩))
    ⊢ wp frame (wpE (defs₀ (F := F)) Variants.none c none) Set.univ (body (F := F) (grid0.coords t) st hst) K :=
  point c t st hst _ _ _ fst _ _ (fun h9 => by unfold dhOut dxAcc; rw [hf, gain_at m c t h9]) rfl K

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [after0_0]
  simp only [before0_0]
  unfold Dat.owesAt Pipeline.owesWithin
  rw [show (dats m 0 c).owed t.castSucc = 0 from rfl, show (dats m 0 c).owed t.succ = 0 from rfl]
  rw [show (dats m 0 c).Φ t.castSucc = iprop(inv c t.val (V m c main_v0) (V m c main_arg1) (V m c main_v1) (dhOut m c) (dxOut m c) ∗ side c (V m c main_v0) (V m c main_arg1)) from rfl,
    show (dats m 0 c).Φ t.succ = iprop(inv c (t.val + 1) (V m c main_v0) (V m c main_arg1) (V m c main_v1) (dhOut m c) (dxOut m c) ∗ side c (V m c main_v0) (V m c main_arg1)) from rfl]
  unfold owns
  iintro ⟨⟨Hi, Hs⟩, ⟨%W, -, HW⟩, ⟨%d, %f, %hf, Hst⟩⟩
  iapply (point_any m c t (gst t) (hstage0_0 ((cfg0.slots t 0).cast nbuf0_0)) f hf _)
  isplitl [Hi]; · iexact Hi
  isplitl [HW]
  · unfold ow; iexists W; iexact HW
  isplitl [Hst]; · iexact Hst
  unfold ow
  iintro ⟨Hi, ⟨%W', HW'⟩, Hst⟩
  isplitl [Hi Hs]
  · isplitl [Hi]; · iexact Hi
    iexact Hs
  isplitl [HW']
  · iexists W'; isplitr; · ipureintro; exact fun _ _ => Or.inl trivial
    iexact HW'
  iexists f; isplitr
  · ipureintro; exact hf
  iexact Hst

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's entry, at the algebra the transfers' counters live in. -/
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What the written arrays end at. -/
def outV (c : Dev nD) (b : Ref sig .tc) : Buf (Elt F) ((c : Thread nD τ).loc b) :=
  if h : b = main_v3_0 then h ▸ (dhOut m c : Buf (Elt F) ((c : Thread nD τ).loc main_v3_0))
  else if h : b = main_v3_1 then h ▸ (dxOut m c : Buf (Elt F) ((c : Thread nD τ).loc main_v3_1))
  else V m c b
theorem outV_dh (c : Dev nD) : outV m c main_v3_0 = dhOut m c := by
  unfold outV; rw [dif_pos rfl]
theorem outV_dx (c : Dev nD) : outV m c main_v3_1 = dxOut m c := by
  unfold outV; rw [dif_neg (by decide), dif_pos rfl]

theorem hin (c : Dev nD) : Pipeline.ΦDRG osem0 spec0 H0 R0 (V m) (V m) c ⊢ (dats (F := F) m 0 c).Φ 0 := by
  rw [Pipeline.ΦDRG_eq, scratch_eq, ownSems0_cells, reads_eq, routed_results]
  rw [show (dats m 0 c).Φ 0 = iprop(inv c 0 (V m c main_v0) (V m c main_arg1) (V m c main_v1) (dhOut m c) (dxOut m c) ∗ side c (V m c main_v0) (V m c main_arg1)) from rfl,
    inv_zero]
  exact enter c _ _ _ _ _

theorem hout (c : Dev nD) : (dats (F := F) m 0 c).Φ (Fin.last cfg0.N) ⊢ Pipeline.ΦDRG osem0 spec0 H0 R0 (V m) (outV m) c := by
  rw [Pipeline.ΦDRG_eq, scratch_eq, ownSems0_cells, reads_eq, routed_results, outV_dh, outV_dx]
  rw [show (dats m 0 c).Φ (Fin.last cfg0.N) = iprop(inv c 10 (V m c main_v0) (V m c main_arg1) (V m c main_v1) (dhOut m c) (dxOut m c) ∗ side c (V m c main_v0) (V m c main_arg1)) from rfl,
    inv_ten]
  exact leave c _ _ _ _ _

set_option backward.isDefEq.respectTransparency.types false in
/-- The kernel's run: it ends, with every array outside the two results unchanged, the results at the values named
    above, and every semaphore at zero. -/
theorem run_main : θ_run defs (onTc (τ := τ) (main (F := F))) (s₀ m ρ)
    (fun r => Pipeline.FramePostRG cfgs (dats m) 0 R0 (V m) (outV m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := outV m)
    (hin := fun c => hin m c) (hout := fun c => hout m c)

/-- The kernel's run in the claims' terms: both results, the arguments and the semaphores. -/
theorem run_all : θ_run defs (onTc (τ := τ) (main (F := F))) ⟨m, fun _ => 0, ρ⟩ (fun r => (∀ c : Dev nD,
      (r.2.mem ((c.tc : Thread nD τ).loc main_v3_0) = dhOut m c ∧ r.2.mem ((c.tc : Thread nD τ).loc main_v3_1) = dxOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨⟨(h.1.2 c main_v3_0 (by decide)).trans (outV_dh m c), (h.1.2 c main_v3_1 (by decide)).trans (outV_dx m c)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c)⟩, h.2⟩)
    (run_main m ρ)

end Cert.KernelIdeal.Hand

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import Idealize.ShloMosaic.Lib.Claim
public import Idealize.ShloMosaic.Lib.Quiescent

@[expose] public section

noncomputable section

namespace Cert.Proof

open Idealize.ShloMosaic Idealize.ShloMosaic.TcCoe Idealize.SL.Sem

section Same
variable {F : FTy → Type} [FloatOps F] [Cert.Kernel.Facts] [Cert.KernelIdeal.Facts]

set_option maxRecDepth 65536 in
/-- The kernel's body table is the same one in both printed programs. -/
theorem bodies_same : Cert.KernelIdeal.defs₀ (F := F) = Cert.Kernel.defs₀ (F := F) := by
  unfold Cert.KernelIdeal.defs₀ Cert.Kernel.defs₀
  congr 1
  funext l a
  rcases l with ⟨l, hl⟩
  match l, hl, a with
    | 0, hl, (t, s) => rfl

set_option maxRecDepth 65536 in
/-- The host program is the same one in both printed programs. -/
theorem main_same : Cert.KernelIdeal.main (F := F) = Cert.Kernel.main (F := F) := rfl

set_option maxRecDepth 65536 in
/-- The program's table is the same one in both printed programs. -/
theorem defs_same : Cert.KernelIdeal.defs (F := F) = Cert.Kernel.defs (F := F) := by
  unfold Cert.KernelIdeal.defs Cert.Kernel.defs
  exact congrArg (Pipeline.defs (Cert.Kernel.pcfgs (F := F))) bodies_same

end Same

/-- The kernel's run, of the program as printed at its own floats: it ends with the arguments unchanged and every
    semaphore at zero. -/
theorem frame_kernel : letI := Cert.Kernel.Gen.facts; Cert.quiescent_Kernel := by
  letI := Cert.Kernel.Gen.facts
  intro m g _
  have h := Cert.KernelIdeal.Hand.run_all (F := Bits) m g
  rw [defs_same, main_same] at h
  exact (θ_run (Cert.Kernel.defs (F := Bits)) _ _).mono (fun r h => ⟨fun c => (h.1 c).2, h.2⟩) h

/-- The kernel's run over the reals: it ends with the arguments unchanged and every semaphore at zero. -/
theorem frame_kernelIdeal : letI := Cert.KernelIdeal.Gen.facts; Cert.quiescent_KernelIdeal := by
  letI := Cert.KernelIdeal.Gen.facts
  intro m g _
  exact (θ_run (Cert.KernelIdeal.defs (F := Ideal)) _ _).mono (fun r h => ⟨fun c => (h.1 c).2, h.2⟩)
    (Cert.KernelIdeal.Hand.run_all (F := Ideal) m g)

/-- The reference's run over the reals: it ends with the arguments unchanged and every semaphore at zero. -/
theorem frame_referenceIdeal : letI := Cert.ReferenceIdeal.Gen.facts; Cert.quiescent_ReferenceIdeal := by
  letI := Cert.ReferenceIdeal.Gen.facts
  intro m g _
  have key : θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
    hlo_run
  exact (θ_run (Cert.ReferenceIdeal.defs (F := Ideal)) _ _).mono (fun r h => ⟨h, sem_eq_zero_of_no_sems (by decide) r.2⟩) key

end Cert.Proof

end
-- ==== Proof.Mx.lean ====
module

public import proofs.«01_k».proof.Proof.Vals
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! # The quantiser over the reals -/

/-- The largest magnitude of a block of 32 entries. -/
def mxA (f : Fin 32 → EReal) : EReal :=
  Finset.univ.fold max (Ideal.ofBits .f32 0xFF800000#32) fun l => FloatOps.absf (F := Ideal) (φ := .f32) (f l)
/-- The exponent of a block's scale, from its largest magnitude. -/
def mxE (a : EReal) : EReal :=
  if a = 0 then 0
  else Ideal.liftRound Int.floor (Ideal.div (Ideal.log (a * Ideal.ofBits .f32 0x3B124925#32)) (Ideal.log (Ideal.ofBits .f32 0x40000000#32))) + 1
/-- An entry scaled, clamped to the format's range and scaled back. -/
def mxV (f : Fin 32 → EReal) (v : EReal) : EReal :=
  min (max (v * Ideal.exp2 (0 - mxE (mxA f))) (Ideal.ofBits .bf16 0xC3E0#16)) (Ideal.ofBits .bf16 0x43E0#16) * Ideal.exp2 (mxE (mxA f))
/-- An entry of a quantised row: its block is the 32 entries that share its quotient. -/
def mxRow (f : Fin 10240 → EReal) (o : Fin 10240) : EReal :=
  mxV (fun l => f ⟨o.val / 32 * 32 + l.val, by omega⟩) (f o)
/-- An array quantised row by row. -/
def mxMat {R : ℕ} (X : Vec Ideal ⟨2, ![R, 10240]⟩ .bf16) : Vec Ideal ⟨2, ![R, 10240]⟩ .bf16 :=
  fun y => mxRow (fun o => X (ix2 (y 0) o)) (y 1)

/-- A unit's quantised entry. -/
theorem payQ_apply (v : Vec Ideal S256x512 .bf16) (r : Fin 256) (s : Fin 512) :
    k0_pay5 (F := Ideal) v (ix2 r s) = mxV (fun l => v (ix2 r ⟨s.val / 32 * 32 + l.val, by omega⟩)) (v (ix2 r s)) := by
  unfold mxV mxE mxA
  pointwise [k0_pay5]
  rfl

/-- An array's entry at two numbers in range. -/
theorem at2_eq {R C : ℕ} [NeZero R] [NeZero C] (X : Vec Ideal ⟨2, ![R, C]⟩ .bf16) (a : Fin R) (b : Fin C) (m n : ℕ) (hm : m = a.val) (hn : n = b.val) :
    at2 X m n = X (ix2 a b) := by
  subst hm hn
  unfold at2
  rw [show Fin.ofNat R a.val = a from Fin.ext (Nat.mod_eq_of_lt a.isLt), show Fin.ofNat C b.val = b from Fin.ext (Nat.mod_eq_of_lt b.isLt)]

/-- The array quantised unit by unit is quantised block by block. -/
theorem qArr_apply {R C : ℕ} [NeZero R] [NeZero C] (X : Vec Ideal ⟨2, ![R, C]⟩ .bf16) (a : Fin R) (b : Fin C) (hb : ∀ l : Fin 32, b.val / 32 * 32 + l.val < C) :
    qArr X (ix2 a b) = mxV (fun l => X (ix2 a ⟨b.val / 32 * 32 + l.val, hb l⟩)) (X (ix2 a b)) := by
  show qEnt (at2 X) a.val b.val = _
  unfold qEnt
  refine (payQ_apply _ _ _).trans ?_
  have e1 : ∀ l : Fin 32, at2 X (256 * (a.val / 256) + a.val % 256) (512 * (b.val / 512) + (b.val % 512 / 32 * 32 + l.val)) = X (ix2 a ⟨b.val / 32 * 32 + l.val, hb l⟩) :=
    fun l => at2_eq X a ⟨_, hb l⟩ _ _ (by omega) (by show _ = b.val / 32 * 32 + l.val; omega)
  have e2 : at2 X (256 * (a.val / 256) + a.val % 256) (512 * (b.val / 512) + b.val % 512) = X (ix2 a b) :=
    at2_eq X a b _ _ (by omega) (by omega)
  exact congr (congrArg mxV (funext e1)) e2

end Cert.KernelIdeal.Hand

end
-- ==== Proof.Sum.lean ====
module

public import proofs.«01_k».proof.Proof.Run
public import proofs.«01_k».proof.Proof.Mx
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! # The accumulated product over the reals -/

/-- One product of the contraction: column `o` of row `a` of the gradient and of row `b` of the weight. -/
def term (D : Vec Ideal S1536x10240 .bf16) (W : Vec Ideal S2560x10240 .bf16) (a : Fin 1536) (b : Fin 2560) (o : ℕ) : EReal :=
  if h : o < 10240 then D (ix2 a ⟨o, h⟩) * W (ix2 b ⟨o, h⟩) else 0

/-- A tile of the accumulator plus its product, at an entry. -/
theorem payTile_apply (w : Vec Ideal S512x1024 .bf16) (X : Vec Ideal S512x512 .f32) (d : Vec Ideal S512x1024 .bf16) (r s : Fin 512) :
    k0_pay70 (F := Ideal) w X d (ix2 r s) = X (ix2 r s) + ∑ i : Fin 1024, d (ix2 r i) * w (ix2 s i) := by
  pointwise [k0_pay70]

/-- The accumulator starts at zero. -/
theorem payZero_apply (y : S1536x2560.Idx) : k0_pay4 (F := Ideal) y = 0 := by
  pointwise [k0_pay4]

theorem dyT_apply (c : Dev nD) (f : Bf (F := Ideal) c dyM) (k : ℕ) (hk : k < 10) (a : Fin 1536) (i : Fin 1024) :
    dyT c f k (ix2 a i) = dyM.view.read (Elt Ideal) f (ix2 a ⟨1024 * k + i.val, by omega⟩) := by
  show dyM.view.read (Elt Ideal) f _ = _
  congr 1
  funext x
  refine Fin.ext ?_
  match x with
  | 0 => show 0 + 1 * a.val = a.val; omega
  | 1 => show 1024 * (k % 10) + 1 * i.val = 1024 * k + i.val; rw [Nat.mod_eq_of_lt hk]; omega
theorem wfT_apply (c : Dev nD) (f : Bf (F := Ideal) c wM) (k : ℕ) (hk : k < 10) (a : Fin 512) (i : Fin 1024) :
    wfT c f k (ix2 a i) = wM.view.read (Elt Ideal) f (ix2 ⟨a.val, by omega⟩ ⟨1024 * k + i.val, by omega⟩) := by
  show wM.view.read (Elt Ideal) f _ = _
  congr 1
  funext x
  refine Fin.ext ?_
  match x with
  | 0 => show 0 + 1 * a.val = a.val; omega
  | 1 => show 1024 * (k % 10) + 1 * i.val = 1024 * k + i.val; rw [Nat.mod_eq_of_lt hk]; omega
theorem wrT_apply (c : Dev nD) (f : Bf (F := Ideal) c wM) (k : ℕ) (hk : k < 10) (a : Fin 2048) (i : Fin 1024) :
    wrT c f k (ix2 a i) = wM.view.read (Elt Ideal) f (ix2 ⟨512 + a.val, by omega⟩ ⟨1024 * k + i.val, by omega⟩) := by
  show wM.view.read (Elt Ideal) f _ = _
  congr 1
  funext x
  refine Fin.ext ?_
  match x with
  | 0 => show 512 + 1 * a.val = 512 + a.val; omega
  | 1 => show 1024 * (k % 10) + 1 * i.val = 1024 * k + i.val; rw [Nat.mod_eq_of_lt hk]; omega

/-- The quantised blocks are the quantised arrays' blocks. -/
theorem qdy_apply (c : Dev nD) (f : Bf (F := Ideal) c dyM) (k : ℕ) (hk : k < 10) (a : Fin 1536) (i : Fin 1024) :
    qArr (dyT c f k) (ix2 a i) = mxMat (R := 1536) (dyM.view.read (Elt Ideal) f) (ix2 a ⟨1024 * k + i.val, by omega⟩) := by
  refine (qArr_apply (R := 1536) (C := 1024) (dyT c f k) a i (fun l => by omega)).trans ?_
  show _ = mxRow (fun o => dyM.view.read (Elt Ideal) f (ix2 a o)) ⟨1024 * k + i.val, by omega⟩
  unfold mxRow
  rw [dyT_apply c f k hk a i]
  congr 1
  funext l
  rw [dyT_apply c f k hk]
  exact congrArg (fun o => dyM.view.read (Elt Ideal) f (ix2 a o)) (Fin.ext (by show 1024 * k + (i.val / 32 * 32 + l.val) = (1024 * k + i.val) / 32 * 32 + l.val; omega))
theorem qwf_apply (c : Dev nD) (f : Bf (F := Ideal) c wM) (k : ℕ) (hk : k < 10) (a : Fin 512) (i : Fin 1024) :
    qArr (wfT c f k) (ix2 a i) = mxMat (R := 2560) (wM.view.read (Elt Ideal) f) (ix2 ⟨a.val, by omega⟩ ⟨1024 * k + i.val, by omega⟩) := by
  refine (qArr_apply (R := 512) (C := 1024) (wfT c f k) a i (fun l => by omega)).trans ?_
  show _ = mxRow (fun o => wM.view.read (Elt Ideal) f (ix2 ⟨a.val, by omega⟩ o)) ⟨1024 * k + i.val, by omega⟩
  unfold mxRow
  rw [wfT_apply c f k hk a i]
  congr 1
  funext l
  rw [wfT_apply c f k hk]
  exact congrArg (fun o => wM.view.read (Elt Ideal) f (ix2 ⟨a.val, by omega⟩ o)) (Fin.ext (by show 1024 * k + (i.val / 32 * 32 + l.val) = (1024 * k + i.val) / 32 * 32 + l.val; omega))
theorem qwr_apply (c : Dev nD) (f : Bf (F := Ideal) c wM) (k : ℕ) (hk : k < 10) (a : Fin 2048) (i : Fin 1024) :
    qArr (wrT c f k) (ix2 a i) = mxMat (R := 2560) (wM.view.read (Elt Ideal) f) (ix2 ⟨512 + a.val, by omega⟩ ⟨1024 * k + i.val, by omega⟩) := by
  refine (qArr_apply (R := 2048) (C := 1024) (wrT c f k) a i (fun l => by omega)).trans ?_
  show _ = mxRow (fun o => wM.view.read (Elt Ideal) f (ix2 ⟨512 + a.val, by omega⟩ o)) ⟨1024 * k + i.val, by omega⟩
  unfold mxRow
  rw [wrT_apply c f k hk a i]
  congr 1
  funext l
  rw [wrT_apply c f k hk]
  exact congrArg (fun o => wM.view.read (Elt Ideal) f (ix2 ⟨512 + a.val, by omega⟩ o)) (Fin.ext (by show 1024 * k + (i.val / 32 * 32 + l.val) = (1024 * k + i.val) / 32 * 32 + l.val; omega))

/-- The quantised weight rows of a tile are the quantised weight's rows. -/
theorem wTile_apply (c : Dev nD) (f : Bf (F := Ideal) c wM) (k n : ℕ) (hk : k < 10) (hn : n < 5) (s : Fin 512) (i : Fin 1024) :
    wTile (qArr (wfT c f k)) (qArr (wrT c f k)) n (ix2 s i) = mxMat (R := 2560) (wM.view.read (Elt Ideal) f) (ix2 ⟨512 * n + s.val, by omega⟩ ⟨1024 * k + i.val, by omega⟩) := by
  unfold wTile
  split
  · rename_i h
    subst h
    have e : (Rect.unit (s := S512x1024) ![0, 0] S512x1024.size inb_S512x1024_S512x1024_0_0).emb (ix2 s i) = ix2 s i := by
      funext x
      refine Fin.ext ?_
      match x with
      | 0 => show 0 + 1 * s.val = s.val; omega
      | 1 => show 0 + 1 * i.val = i.val; omega
    refine (congrArg (qArr (wfT c f k)) e).trans ((qwf_apply c f k hk s i).trans (congrArg _ ?_))
    congr 1
    exact Fin.ext (by show s.val = 512 * 0 + s.val; omega)
  · rename_i h
    have e : (Rect.unit (s := S2048x1024) ![512 * ((n - 1) % 4), 0] S512x1024.size (wrRows_inb n)).emb (ix2 s i) = ix2 ⟨512 * (n - 1) + s.val, by omega⟩ i := by
      funext x
      refine Fin.ext ?_
      match x with
      | 0 => show 512 * ((n - 1) % 4) + 1 * s.val = 512 * (n - 1) + s.val; rw [Nat.mod_eq_of_lt (by omega)]; omega
      | 1 => show 0 + 1 * i.val = i.val; omega
    refine (congrArg (qArr (wrT c f k)) e).trans ((qwr_apply c f k hk _ i).trans (congrArg _ ?_))
    congr 1
    exact Fin.ext (by show 512 + (512 * (n - 1) + s.val) = 512 * n + s.val; omega)

/-- One grid point adds its 1024 quantised columns' products to an entry of the accumulator. -/
theorem stepAcc_apply (c : Dev nD) (fdy : Bf (F := Ideal) c dyM) (fw : Bf (F := Ideal) c wM) (k : ℕ) (hk : k < 10) (X : Vec Ideal S1536x2560 .f32) (a : Fin 1536) (b : Fin 2560) :
    stepAcc (qArr (dyT c fdy k)) (qArr (wfT c fw k)) (qArr (wrT c fw k)) X (ix2 a b)
      = X (ix2 a b) + ∑ i ∈ Finset.range 1024, term (mxMat (R := 1536) (dyM.view.read (Elt Ideal) fdy)) (mxMat (R := 2560) (wM.view.read (Elt Ideal) fw)) a b (1024 * k + i) := by
  unfold stepAcc
  rw [payTile_apply, Finset.sum_range]
  congr 1
  · unfold tileOf
    refine congrArg X ?_
    funext x
    refine Fin.ext ?_
    match x with
    | 0 => show 512 * (a.val / 512 % 3) + 1 * (a.val % 512) = a.val; omega
    | 1 => show 512 * (b.val / 512 % 5) + 1 * (b.val % 512) = b.val; omega
  · refine Finset.sum_congr rfl fun i _ => ?_
    unfold term
    rw [dif_pos (by omega)]
    congr 1
    · have e : (Rect.unit (s := S1536x1024) ![512 * (a.val / 512 % 3), 0] S512x1024.size (rowsOf_inb (a.val / 512))).emb (ix2 ⟨a.val % 512, Nat.mod_lt _ (by decide)⟩ i) = ix2 a i := by
        funext x
        refine Fin.ext ?_
        match x with
        | 0 => show 512 * (a.val / 512 % 3) + 1 * (a.val % 512) = a.val; omega
        | 1 => show 0 + 1 * i.val = i.val; omega
      exact (congrArg (qArr (dyT c fdy k)) e).trans (qdy_apply c fdy k hk a i)
    · refine (wTile_apply c fw k (b.val / 512) hk (by omega) ⟨b.val % 512, Nat.mod_lt _ (by decide)⟩ i).trans (congrArg _ ?_)
      congr 1
      exact Fin.ext (by show 512 * (b.val / 512) + b.val % 512 = b.val; omega)

/-- After `k` grid points the accumulator holds the product over the first `1024 k` columns. -/
theorem accAt_apply (c : Dev nD) (fdy : Bf (F := Ideal) c dyM) (fw : Bf (F := Ideal) c wM) (a : Fin 1536) (b : Fin 2560) : ∀ k, k ≤ 10 →
    accAt c fdy fw k (ix2 a b) = ∑ o ∈ Finset.range (1024 * k), term (mxMat (R := 1536) (dyM.view.read (Elt Ideal) fdy)) (mxMat (R := 2560) (wM.view.read (Elt Ideal) fw)) a b o
  | 0, _ => payZero_apply _
  | k + 1, hk => by
    rw [show accAt c fdy fw (k + 1) = stepAcc (qArr (dyT c fdy k)) (qArr (wfT c fw k)) (qArr (wrT c fw k)) (accAt c fdy fw k) from rfl,
      stepAcc_apply c fdy fw k (by omega), accAt_apply c fdy fw a b k (by omega),
      show 1024 * (k + 1) = 1024 * k + 1024 by omega, Finset.sum_range_add]

/-- At the end the accumulator holds the whole product of the quantised rows. -/
theorem accAt_end (c : Dev nD) (fdy : Bf (F := Ideal) c dyM) (fw : Bf (F := Ideal) c wM) (a : Fin 1536) (b : Fin 2560) :
    accAt c fdy fw 10 (ix2 a b) = ∑ o : Fin 10240, mxRow (fun k => dyM.view.read (Elt Ideal) fdy (ix2 a k)) o * mxRow (fun k => wM.view.read (Elt Ideal) fw (ix2 b k)) o := by
  rw [accAt_apply c fdy fw a b 10 (by omega), Finset.sum_range]
  exact Finset.sum_congr rfl fun o _ => dif_pos o.isLt

/-! # The norm's backward pass over the reals -/

/-- The mean of a row's squares plus the constant, as a reciprocal root. -/
def rOf (h : Fin 2560 → EReal) : EReal :=
  Ideal.rsqrt (Ideal.div (∑ k : Fin 2560, h k * h k) (Ideal.ofBits .f32 0x45200000#32) + Ideal.ofBits .f32 0x358637BD#32)
/-- One entry of the norm's backward pass, from a row of `h`, of the product and of the gain. -/
def dhOf (h x g : Fin 2560 → EReal) (b : Fin 2560) : EReal :=
  rOf h * (x b * g b - h b * rOf h * Ideal.div (∑ k : Fin 2560, x k * g k * (h k * rOf h)) (Ideal.ofBits .f32 0x45200000#32))

theorem payDh_apply (h : Vec Ideal S16x2560 .bf16) (x : Vec Ideal S16x2560 .f32) (g : Vec Ideal S1x2560 .f32) (a : Fin 16) (b : Fin 2560) :
    k0_pay235 (F := Ideal) h x g (ix3 0 a b) = dhOf (fun k => h (ix2 a k)) (fun k => x (ix2 a k)) (fun k => g (ix2 0 k)) b := by
  pointwise [k0_pay235, dhOf, rOf]
theorem payDx_apply (x : Vec Ideal S16x2560 .f32) (a : Fin 16) (b : Fin 2560) :
    k0_pay308 (F := Ideal) x (ix3 0 a b) = x (ix2 a b) := by
  pointwise [k0_pay308]

theorem strip_apply {e : EltTy} (X : Vec Ideal S1536x2560 e) (a : Fin 1536) (b : Fin 2560) :
    strip X (a.val / 16) (ix2 ⟨a.val % 16, Nat.mod_lt _ (by decide)⟩ b) = X (ix2 a b) := by
  unfold strip
  refine congrArg X ?_
  funext x
  refine Fin.ext ?_
  match x with
  | 0 => show 16 * (a.val / 16 % 96) + 1 * (a.val % 16) = a.val; omega
  | 1 => show 0 + 1 * b.val = b.val; omega

/-- The first result, entry by entry. -/
theorem gDh_apply (h : Vec Ideal S1536x2560 .bf16) (acc : Vec Ideal S1536x2560 .f32) (g : Vec Ideal S1x2560 .f32) (a : Fin 1536) (b : Fin 2560) :
    gDh h acc g (ix2 a b) = dhOf (fun k => h (ix2 a k)) (fun k => acc (ix2 a k)) (fun k => g (ix2 0 k)) b := by
  unfold gDh
  refine (payDh_apply _ _ _ _ _).trans ?_
  congr 1
  · funext k; exact strip_apply h a k
  · funext k; exact strip_apply acc a k
/-- The second result, entry by entry. -/
theorem gDx_apply (acc : Vec Ideal S1536x2560 .f32) (a : Fin 1536) (b : Fin 2560) : gDx acc (ix2 a b) = acc (ix2 a b) := by
  unfold gDx
  refine (payDx_apply _ _ _).trans (strip_apply acc a b)

end Cert.KernelIdeal.Hand

end
-- ==== Proof.Entry.lean ====
module

public import proofs.«01_k».proof.Proof.Sum
public import Idealize.ShloMosaic.Lib.Pointwise
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
variable (m : (ℓ : Loc nD τ sig) → Buf (Elt Ideal) ℓ)

/-! # The launch's operands, entry by entry -/

/-- The gradient's row `a` is token `a % 256` of sequence `a / 256`. -/
theorem dy_entry (c : Dev nD) (a : Fin 1536) (o : Fin 10240) :
    dyM.view.read (Elt Ideal) (V m c main_v0) (ix2 a o) = (m ((c.tc : Thread nD τ).loc main_arg0) : Vec Ideal S6x256x10240 .bf16) (ix3 ⟨a.val / 256, by omega⟩ ⟨a.val % 256, by omega⟩ o) := by
  show V m c main_v0 (ix2 a o) = _
  entry_read
  pointwise []
/-- The weight is the argument as it is. -/
theorem w_entry (c : Dev nD) (b : Fin 2560) (o : Fin 10240) :
    wM.view.read (Elt Ideal) (V m c main_arg1) (ix2 b o) = (m ((c.tc : Thread nD τ).loc main_arg1) : Vec Ideal S2560x10240 .bf16) (ix2 b o) := by
  show V m c main_arg1 (ix2 b o) = _
  rw [V_main_arg1]
/-- The row `a` of `h` is token `a % 256` of sequence `a / 256`. -/
theorem h_entry (c : Dev nD) (a : Fin 1536) (b : Fin 2560) :
    hM.view.read (Elt Ideal) (V m c main_v1) (ix2 a b) = (m ((c.tc : Thread nD τ).loc main_arg2) : Vec Ideal S6x256x2560 .bf16) (ix3 ⟨a.val / 256, by omega⟩ ⟨a.val % 256, by omega⟩ b) := by
  show V m c main_v1 (ix2 a b) = _
  entry_read
  pointwise []
/-- The gain's block is the gain. -/
theorem gain_entry (c : Dev nD) (b : Fin 2560) :
    gainV m c (ix2 0 b) = (m ((c.tc : Thread nD τ).loc main_arg3) : Vec Ideal S2560 .f32) (ix1 b) := by
  have e : gainV m c (ix2 0 b) = V m c main_v2 (ix2 0 b) := by
    show V m c main_v2 _ = _
    congr 1
    funext x
    refine Fin.ext ?_
    match x with
    | 0 => rfl
    | 1 => show 0 + 1 * b.val = b.val; omega
  rw [e]
  entry_read
  pointwise []

/-- The product is the second result's: a token's quantised gradient times a quantised row of the weight. -/
theorem dxAcc_apply (c : Dev nD) (dy : Vec Ideal S6x256x10240 .bf16) (w : Vec Ideal S2560x10240 .bf16)
    (hdy : m ((c.tc : Thread nD τ).loc main_arg0) = dy) (hw : m ((c.tc : Thread nD τ).loc main_arg1) = w) (a : Fin 1536) (b : Fin 2560) :
    dxAcc m c (ix2 a b) = ∑ o : Fin 10240, mxRow (fun l => dy (ix3 ⟨a.val / 256, by omega⟩ ⟨a.val % 256, by omega⟩ l)) o * mxRow (fun l => w (ix2 b l)) o := by
  subst hdy hw
  unfold dxAcc
  rw [accAt_end]
  refine Finset.sum_congr rfl fun o _ => ?_
  exact congr (congrArg HMul.hMul (congrArg (fun f => mxRow f o) (funext fun l => dy_entry m c a l))) (congrArg (fun f => mxRow f o) (funext fun l => w_entry m c b l))

/-- The second result, entry by entry. -/
theorem dxOut_apply (c : Dev nD) (dy : Vec Ideal S6x256x10240 .bf16) (w : Vec Ideal S2560x10240 .bf16)
    (hdy : m ((c.tc : Thread nD τ).loc main_arg0) = dy) (hw : m ((c.tc : Thread nD τ).loc main_arg1) = w) (a : Fin 1536) (b : Fin 2560) :
    dxOut m c (ix2 a b) = ∑ o : Fin 10240, mxRow (fun l => dy (ix3 ⟨a.val / 256, by omega⟩ ⟨a.val % 256, by omega⟩ l)) o * mxRow (fun l => w (ix2 b l)) o := by
  unfold dxOut
  rw [gDx_apply]
  exact dxAcc_apply m c dy w hdy hw a b

/-- The norm's backward pass depends on its rows entry by entry. -/
theorem dhOf_congr {h h' x x' g g' : Fin 2560 → EReal} (e1 : ∀ k, h k = h' k) (e2 : ∀ k, x k = x' k) (e3 : ∀ k, g k = g' k) (b : Fin 2560) :
    dhOf h x g b = dhOf h' x' g' b := by
  rw [funext e1, funext e2, funext e3]

/-- The first result, entry by entry. -/
theorem dhOut_apply (c : Dev nD) (dy : Vec Ideal S6x256x10240 .bf16) (w : Vec Ideal S2560x10240 .bf16) (h : Vec Ideal S6x256x2560 .bf16) (g : Vec Ideal S2560 .f32)
    (hdy : m ((c.tc : Thread nD τ).loc main_arg0) = dy) (hw : m ((c.tc : Thread nD τ).loc main_arg1) = w)
    (hh : m ((c.tc : Thread nD τ).loc main_arg2) = h) (hg : m ((c.tc : Thread nD τ).loc main_arg3) = g) (a : Fin 1536) (b : Fin 2560) :
    dhOut m c (ix2 a b) = dhOf (fun k => h (ix3 ⟨a.val / 256, by omega⟩ ⟨a.val % 256, by omega⟩ k))
      (fun k => ∑ o : Fin 10240, mxRow (fun l => dy (ix3 ⟨a.val / 256, by omega⟩ ⟨a.val % 256, by omega⟩ l)) o * mxRow (fun l => w (ix2 k l)) o) (fun k => g (ix1 k)) b := by
  unfold dhOut
  rw [gDh_apply]
  exact dhOf_congr (fun k => by subst hh; exact h_entry m c a k) (fun k => dxAcc_apply m c dy w hdy hw a k) (fun k => by subst hg; exact gain_entry m c k) b

end Cert.KernelIdeal.Hand

end
-- ==== Proof.RefVal.lean ====
module

public import proofs.«01_k».proof.Proof.Gen.ReferenceIdeal
public import proofs.«01_k».proof.Proof.Sum
public import Idealize.ShloMosaic.Lib.Pointwise

@[expose] public section

noncomputable section

namespace Cert.ReferenceIdeal.Hand

open Idealize.ShloMosaic Idealize.ShloMosaic.TcCoe
open Cert.ReferenceIdeal Cert.ReferenceIdeal.Facts₀
open Cert.KernelIdeal.Hand (dhOf rOf mxA mxE mxV mxRow)

variable [Cert.ReferenceIdeal.Facts]

/-! # What the reference computes, entry by entry -/

/-! ## The constants -/

theorem two_f32 : Ideal.ofBits .f32 0x40000000#32 = ((2 : ℝ) : EReal) := by
  simp [Ideal.ofBits, Ideal.ieee, -EReal.coe_mul]; norm_num
theorem hi_f32 : Ideal.ofBits .f32 0x43E00000#32 = Ideal.ofBits .bf16 0x43E0#16 := by
  simp [Ideal.ofBits, Ideal.ieee, -EReal.coe_mul]; norm_num
theorem lo_f32 : Ideal.ofBits .f32 0xC3E00000#32 = Ideal.ofBits .bf16 0xC3E0#16 := by
  simp [Ideal.ofBits, Ideal.ieee, -EReal.coe_mul, -EReal.coe_neg]; norm_num
/-- A power of two is the exponential of base two. -/
theorem pow_two (y : EReal) : Ideal.pow (Ideal.ofBits .f32 0x40000000#32) y = Ideal.exp2 y := by
  rw [two_f32]
  induction y with
  | bot => show (if (2 : ℝ) < 0 then (⊥ : EReal) else if (1 : ℝ) < 2 then 0 else if (2 : ℝ) = 1 then 1 else ⊤) = 0; norm_num
  | top => show (if (2 : ℝ) < 0 then (⊥ : EReal) else if (1 : ℝ) < 2 then ⊤ else if (2 : ℝ) = 1 then 1 else 0) = ⊤; norm_num
  | coe r => rfl

/-! ## The quantiser -/

/-- The reference's largest magnitude of each block of the gradient. -/
def refDyA (v : FVec Ideal S6x256x10240 .bf16) : FVec Ideal S6x256x320 .f32 :=
  Host.reduce FloatOps.maximumf (Host.absf (shapeCast S6x256x320x32 (extf .f32 v bitsLt_bf16_f32) shapeCasts_S6x256x10240_S6x256x320x32)) (constant S_ .f32 0xFF800000#32) reducesTo_S6x256x320x32_S6x256x320_d3 h_S_
/-- The reference's exponents of the gradient. -/
def refDyE (x : FVec Ideal S6x256x320 .f32) : FVec Ideal S6x256x320 .f32 :=
  select (cmpf .oeq x (broadcastInDim S6x256x320 ![] bcast_S_S6x256x320 (constant S_ .f32 0x00000000#32)))
    (broadcastInDim S6x256x320 ![] bcast_S_S6x256x320 (constant S_ .f32 0x00000000#32))
    (addf (Host.floor (Host.divf (Host.log (mulf x (broadcastInDim S6x256x320 ![] bcast_S_S6x256x320 (constant S_ .f32 0x3B124925#32))))
      (broadcastInDim S6x256x320 ![] bcast_S_S6x256x320 (Host.log (constant S_ .f32 0x40000000#32))))) (broadcastInDim S6x256x320 ![] bcast_S_S6x256x320 (constant S_ .f32 0x3F800000#32)))
/-- The reference's gradient, quantised and scaled back. -/
def refDyQ (e : FVec Ideal S6x256x320 .f32) (v : FVec Ideal S6x256x10240 .bf16) : FVec Ideal S6x256x10240 .bf16 :=
  shapeCast S6x256x10240 (mulf
    (truncf .bf16 (minimumf (broadcastInDim S6x256x320x32 ![] bcast_S_S6x256x320x32 (constant S_ .f32 0x43E00000#32))
      (maximumf (broadcastInDim S6x256x320x32 ![] bcast_S_S6x256x320x32 (constant S_ .f32 0xC3E00000#32))
        (mulf (shapeCast S6x256x320x32 (extf .f32 v bitsLt_bf16_f32) shapeCasts_S6x256x10240_S6x256x320x32)
          (broadcastInDim S6x256x320x32 ![0, 1, 2, 3] bcast_S6x256x320x1_S6x256x320x32_0_1_2_3
            (broadcastInDim S6x256x320x1 ![0, 1, 2] bcast_S6x256x320_S6x256x320x1_0_1_2
              (Host.powf (broadcastInDim S6x256x320 ![] bcast_S_S6x256x320 (constant S_ .f32 0x40000000#32)) (Host.negf e))))))) bitsLt_bf16_f32)
    (broadcastInDim S6x256x320x32 ![0, 1, 2, 3] bcast_S6x256x320x1_S6x256x320x32_0_1_2_3
      (broadcastInDim S6x256x320x1 ![0, 1, 2] bcast_S6x256x320_S6x256x320x1_0_1_2
        (truncf .bf16 (Host.powf (broadcastInDim S6x256x320 ![] bcast_S_S6x256x320 (constant S_ .f32 0x40000000#32)) e) bitsLt_bf16_f32)))) shapeCasts_S6x256x320x32_S6x256x10240
theorem refDyA_apply (v : FVec Ideal S6x256x10240 .bf16) (p : Fin 6) (q : Fin 256) (b : Fin 320) :
    refDyA v (ix3 p q b) = mxA fun l => v (ix3 p q ⟨b.val * 32 + l.val, by omega⟩) := by
  unfold mxA
  pointwise [refDyA]
theorem refDyE_apply (x : FVec Ideal S6x256x320 .f32) (p : Fin 6) (q : Fin 256) (b : Fin 320) :
    refDyE x (ix3 p q b) = mxE (x (ix3 p q b)) := by
  unfold mxE
  pointwise [refDyE]
theorem refDyQ_apply (e : FVec Ideal S6x256x320 .f32) (v : FVec Ideal S6x256x10240 .bf16) (p : Fin 6) (q : Fin 256) (o : Fin 10240) :
    refDyQ e v (ix3 p q o) = min (Ideal.ofBits .f32 0x43E00000#32) (max (Ideal.ofBits .f32 0xC3E00000#32)
      (v (ix3 p q o) * Ideal.pow (Ideal.ofBits .f32 0x40000000#32) (-e (ix3 p q ⟨o.val / 32, by omega⟩))))
      * Ideal.pow (Ideal.ofBits .f32 0x40000000#32) (e (ix3 p q ⟨o.val / 32, by omega⟩)) := by
  pointwise [refDyQ]
/-- A quantised entry of the reference. -/
theorem refDyM_apply (v : FVec Ideal S6x256x10240 .bf16) (p : Fin 6) (q : Fin 256) (o : Fin 10240) :
    refDyQ (refDyE (refDyA v)) v (ix3 p q o) = mxRow (fun k => v (ix3 p q k)) o := by
  rw [refDyQ_apply, refDyE_apply, refDyA_apply, pow_two, pow_two, hi_f32, lo_f32]
  unfold mxRow mxV
  rw [min_comm, max_comm, zero_sub]

/-- The reference's largest magnitude of each block of the weight. -/
def refWA (v : FVec Ideal S2560x10240 .bf16) : FVec Ideal S2560x320 .f32 :=
  Host.reduce FloatOps.maximumf (Host.absf (shapeCast S2560x320x32 (extf .f32 v bitsLt_bf16_f32) shapeCasts_S2560x10240_S2560x320x32)) (constant S_ .f32 0xFF800000#32) reducesTo_S2560x320x32_S2560x320_d2 h_S_
/-- The reference's exponents of the weight. -/
def refWE (x : FVec Ideal S2560x320 .f32) : FVec Ideal S2560x320 .f32 :=
  select (cmpf .oeq x (broadcastInDim S2560x320 ![] bcast_S_S2560x320 (constant S_ .f32 0x00000000#32)))
    (broadcastInDim S2560x320 ![] bcast_S_S2560x320 (constant S_ .f32 0x00000000#32))
    (addf (Host.floor (Host.divf (Host.log (mulf x (broadcastInDim S2560x320 ![] bcast_S_S2560x320 (constant S_ .f32 0x3B124925#32))))
      (broadcastInDim S2560x320 ![] bcast_S_S2560x320 (Host.log (constant S_ .f32 0x40000000#32))))) (broadcastInDim S2560x320 ![] bcast_S_S2560x320 (constant S_ .f32 0x3F800000#32)))
/-- The reference's weight, quantised and scaled back. -/
def refWQ (e : FVec Ideal S2560x320 .f32) (v : FVec Ideal S2560x10240 .bf16) : FVec Ideal S2560x10240 .bf16 :=
  shapeCast S2560x10240 (mulf
    (truncf .bf16 (minimumf (broadcastInDim S2560x320x32 ![] bcast_S_S2560x320x32 (constant S_ .f32 0x43E00000#32))
      (maximumf (broadcastInDim S2560x320x32 ![] bcast_S_S2560x320x32 (constant S_ .f32 0xC3E00000#32))
        (mulf (shapeCast S2560x320x32 (extf .f32 v bitsLt_bf16_f32) shapeCasts_S2560x10240_S2560x320x32)
          (broadcastInDim S2560x320x32 ![0, 1, 2] bcast_S2560x320x1_S2560x320x32_0_1_2
            (broadcastInDim S2560x320x1 ![0, 1] bcast_S2560x320_S2560x320x1_0_1
              (Host.powf (broadcastInDim S2560x320 ![] bcast_S_S2560x320 (constant S_ .f32 0x40000000#32)) (Host.negf e))))))) bitsLt_bf16_f32)
    (broadcastInDim S2560x320x32 ![0, 1, 2] bcast_S2560x320x1_S2560x320x32_0_1_2
      (broadcastInDim S2560x320x1 ![0, 1] bcast_S2560x320_S2560x320x1_0_1
        (truncf .bf16 (Host.powf (broadcastInDim S2560x320 ![] bcast_S_S2560x320 (constant S_ .f32 0x40000000#32)) e) bitsLt_bf16_f32)))) shapeCasts_S2560x320x32_S2560x10240
theorem refWA_apply (v : FVec Ideal S2560x10240 .bf16) (p : Fin 2560) (b : Fin 320) :
    refWA v (ix2 p b) = mxA fun l => v (ix2 p ⟨b.val * 32 + l.val, by omega⟩) := by
  unfold mxA
  pointwise [refWA]
theorem refWE_apply (x : FVec Ideal S2560x320 .f32) (p : Fin 2560) (b : Fin 320) :
    refWE x (ix2 p b) = mxE (x (ix2 p b)) := by
  unfold mxE
  pointwise [refWE]
theorem refWQ_apply (e : FVec Ideal S2560x320 .f32) (v : FVec Ideal S2560x10240 .bf16) (p : Fin 2560) (o : Fin 10240) :
    refWQ e v (ix2 p o) = min (Ideal.ofBits .f32 0x43E00000#32) (max (Ideal.ofBits .f32 0xC3E00000#32)
      (v (ix2 p o) * Ideal.pow (Ideal.ofBits .f32 0x40000000#32) (-e (ix2 p ⟨o.val / 32, by omega⟩))))
      * Ideal.pow (Ideal.ofBits .f32 0x40000000#32) (e (ix2 p ⟨o.val / 32, by omega⟩)) := by
  pointwise [refWQ]
/-- A quantised entry of the reference. -/
theorem refWM_apply (v : FVec Ideal S2560x10240 .bf16) (p : Fin 2560) (o : Fin 10240) :
    refWQ (refWE (refWA v)) v (ix2 p o) = mxRow (fun k => v (ix2 p k)) o := by
  rw [refWQ_apply, refWE_apply, refWA_apply, pow_two, pow_two, hi_f32, lo_f32]
  unfold mxRow mxV
  rw [min_comm, max_comm, zero_sub]

/-- The reference's product. -/
def refDx (dy : FVec Ideal S6x256x10240 .bf16) (w : FVec Ideal S2560x10240 .bf16) : FVec Ideal S6x256x2560 .f32 :=
  Host.dotGeneral dot_S6x256x10240_S2560x10240_S6x256x2560_2_1_01_0_n_n none dy w
theorem refDx_apply (dy : FVec Ideal S6x256x10240 .bf16) (w : FVec Ideal S2560x10240 .bf16) (p : Fin 6) (q : Fin 256) (b : Fin 2560) :
    refDx dy w (ix3 p q b) = ∑ o : Fin 10240, dy (ix3 p q o) * w (ix2 b o) := by
  pointwise [refDx]

/-- The reference's reciprocal root of each token's mean square. -/
def refR (h : FVec Ideal S6x256x2560 .bf16) : FVec Ideal S6x256x1 .f32 :=
  broadcastInDim S6x256x1 ![0, 1] bcast_S6x256_S6x256x1_0_1
    (Host.rsqrt (addf (Host.divf (Host.reduceAdd (mulf (extf .f32 h bitsLt_bf16_f32) (extf .f32 h bitsLt_bf16_f32)) (constant S_ .f32 0x00000000#32) reducesTo_S6x256x2560_S6x256_d2 h_S_)
      (broadcastInDim S6x256 ![] bcast_S_S6x256 (constant S_ .f32 0x45200000#32))) (broadcastInDim S6x256 ![] bcast_S_S6x256 (constant S_ .f32 0x358637BD#32))))
theorem refR_apply (h : FVec Ideal S6x256x2560 .bf16) (p : Fin 6) (q : Fin 256) :
    refR h (ix3 p q 0) = rOf fun k => h (ix3 p q k) := by
  pointwise [refR, rOf]

/-- The reference's normalised rows. -/
def refN (h : FVec Ideal S6x256x2560 .bf16) : FVec Ideal S6x256x2560 .f32 :=
  mulf (extf .f32 h bitsLt_bf16_f32) (broadcastInDim S6x256x2560 ![0, 1, 2] bcast_S6x256x1_S6x256x2560_0_1_2 (refR h))
theorem refN_apply (h : FVec Ideal S6x256x2560 .bf16) (p : Fin 6) (q : Fin 256) (b : Fin 2560) :
    refN h (ix3 p q b) = h (ix3 p q b) * rOf fun k => h (ix3 p q k) := by
  rw [← refR_apply]
  pointwise [refN]

/-- The reference's product times the gain. -/
def refG (x : FVec Ideal S6x256x2560 .f32) (g : FVec Ideal S2560 .f32) : FVec Ideal S6x256x2560 .f32 :=
  mulf x (broadcastInDim S6x256x2560 ![0, 1, 2] bcast_S1x1x2560_S6x256x2560_0_1_2 (broadcastInDim S1x1x2560 ![2] bcast_S2560_S1x1x2560_2 g))
theorem refG_apply (x : FVec Ideal S6x256x2560 .f32) (g : FVec Ideal S2560 .f32) (p : Fin 6) (q : Fin 256) (b : Fin 2560) :
    refG x g (ix3 p q b) = x (ix3 p q b) * g (ix1 b) := by
  pointwise [refG]

/-- The reference's backward pass of the norm, before its reshape. -/
def refDh (x : FVec Ideal S6x256x2560 .f32) (h : FVec Ideal S6x256x2560 .bf16) (g : FVec Ideal S2560 .f32) : FVec Ideal S6x256x2560 .bf16 :=
  truncf .bf16 (mulf (broadcastInDim S6x256x2560 ![0, 1, 2] bcast_S6x256x1_S6x256x2560_0_1_2 (refR h))
    (subf (refG x g) (mulf (refN h) (broadcastInDim S6x256x2560 ![0, 1, 2] bcast_S6x256x1_S6x256x2560_0_1_2
      (Host.divf (broadcastInDim S6x256x1 ![0, 1] bcast_S6x256_S6x256x1_0_1 (Host.reduceAdd (mulf (refG x g) (refN h)) (constant S_ .f32 0x00000000#32) reducesTo_S6x256x2560_S6x256_d2 h_S_))
        (broadcastInDim S6x256x1 ![] bcast_S_S6x256x1 (constant S_ .f32 0x45200000#32))))))) bitsLt_bf16_f32
theorem refDh_apply (x : FVec Ideal S6x256x2560 .f32) (h : FVec Ideal S6x256x2560 .bf16) (g : FVec Ideal S2560 .f32) (p : Fin 6) (q : Fin 256) (b : Fin 2560) :
    refDh x h g (ix3 p q b) = dhOf (fun k => h (ix3 p q k)) (fun k => x (ix3 p q k)) (fun k => g (ix1 k)) b := by
  unfold dhOf
  pointwise [refDh]
  simp only [refR_apply, refN_apply, refG_apply]

/-- The results' reshape: row `a` is token `a % 256` of sequence `a / 256`. -/
theorem rows_apply (X : FVec Ideal S6x256x2560 .bf16) (a : Fin 1536) (b : Fin 2560) :
    shapeCast S1536x2560 X shapeCasts_S6x256x2560_S1536x2560 (ix2 a b) = X (ix3 ⟨a.val / 256, by omega⟩ ⟨a.val % 256, by omega⟩ b) := by
  pointwise []

end Cert.ReferenceIdeal.Hand

end
-- ==== Proof.Pair.lean ====
module

public import proofs.«01_k».proof.Proof.Frames
public import proofs.«01_k».proof.Proof.Entry
public import proofs.«01_k».proof.Proof.RefVal
public import Idealize.ShloMosaic.Lib.Pointwise

@[expose] public section

noncomputable section

namespace Cert.Proof

open Idealize.ShloMosaic Idealize.ShloMosaic.TcCoe Idealize.SL.Sem
open Cert.KernelIdeal.Hand (dhOut dxOut dhOut_apply dxOut_apply)
open Cert.ReferenceIdeal.Hand

/-! A buffer of a literal reference holds the value itself. -/

section
open Cert.ReferenceIdeal
theorem at_main_v15 (x : (⟨Cert.ReferenceIdeal.S6x256x320, .i1⟩ : BufTy).Contents (Elt Ideal)) :
    (StableHlo.TRef.of Cert.ReferenceIdeal.main_v15 : StableHlo.TRef Cert.ReferenceIdeal.sig ⟨Cert.ReferenceIdeal.S6x256x320, .i1⟩).ofBuf x = x := rfl
theorem at_main_cst_4 (x : (⟨Cert.ReferenceIdeal.S_, .f32⟩ : BufTy).Contents (Elt Ideal)) :
    (StableHlo.TRef.of Cert.ReferenceIdeal.main_cst_4 : StableHlo.TRef Cert.ReferenceIdeal.sig ⟨Cert.ReferenceIdeal.S_, .f32⟩).ofBuf x = x := rfl
theorem at_main_v13 (x : (⟨Cert.ReferenceIdeal.S6x256x320, .f32⟩ : BufTy).Contents (Elt Ideal)) :
    (StableHlo.TRef.of Cert.ReferenceIdeal.main_v13 : StableHlo.TRef Cert.ReferenceIdeal.sig ⟨Cert.ReferenceIdeal.S6x256x320, .f32⟩).ofBuf x = x := rfl
theorem at_main_v22 (x : (⟨Cert.ReferenceIdeal.S6x256x320x32, .f32⟩ : BufTy).Contents (Elt Ideal)) :
    (StableHlo.TRef.of Cert.ReferenceIdeal.main_v22 : StableHlo.TRef Cert.ReferenceIdeal.sig ⟨Cert.ReferenceIdeal.S6x256x320x32, .f32⟩).ofBuf x = x := rfl
theorem at_main_cst_6 (x : (⟨Cert.ReferenceIdeal.S_, .f32⟩ : BufTy).Contents (Elt Ideal)) :
    (StableHlo.TRef.of Cert.ReferenceIdeal.main_cst_6 : StableHlo.TRef Cert.ReferenceIdeal.sig ⟨Cert.ReferenceIdeal.S_, .f32⟩).ofBuf x = x := rfl
theorem at_main_cst_7 (x : (⟨Cert.ReferenceIdeal.S_, .f32⟩ : BufTy).Contents (Elt Ideal)) :
    (StableHlo.TRef.of Cert.ReferenceIdeal.main_cst_7 : StableHlo.TRef Cert.ReferenceIdeal.sig ⟨Cert.ReferenceIdeal.S_, .f32⟩).ofBuf x = x := rfl
theorem at_main_v47 (x : (⟨Cert.ReferenceIdeal.S2560x320, .i1⟩ : BufTy).Contents (Elt Ideal)) :
    (StableHlo.TRef.of Cert.ReferenceIdeal.main_v47 : StableHlo.TRef Cert.ReferenceIdeal.sig ⟨Cert.ReferenceIdeal.S2560x320, .i1⟩).ofBuf x = x := rfl
theorem at_main_cst_14 (x : (⟨Cert.ReferenceIdeal.S_, .f32⟩ : BufTy).Contents (Elt Ideal)) :
    (StableHlo.TRef.of Cert.ReferenceIdeal.main_cst_14 : StableHlo.TRef Cert.ReferenceIdeal.sig ⟨Cert.ReferenceIdeal.S_, .f32⟩).ofBuf x = x := rfl
theorem at_main_v45 (x : (⟨Cert.ReferenceIdeal.S2560x320, .f32⟩ : BufTy).Contents (Elt Ideal)) :
    (StableHlo.TRef.of Cert.ReferenceIdeal.main_v45 : StableHlo.TRef Cert.ReferenceIdeal.sig ⟨Cert.ReferenceIdeal.S2560x320, .f32⟩).ofBuf x = x := rfl
theorem at_main_v54 (x : (⟨Cert.ReferenceIdeal.S2560x320x32, .f32⟩ : BufTy).Contents (Elt Ideal)) :
    (StableHlo.TRef.of Cert.ReferenceIdeal.main_v54 : StableHlo.TRef Cert.ReferenceIdeal.sig ⟨Cert.ReferenceIdeal.S2560x320x32, .f32⟩).ofBuf x = x := rfl
theorem at_main_cst_16 (x : (⟨Cert.ReferenceIdeal.S_, .f32⟩ : BufTy).Contents (Elt Ideal)) :
    (StableHlo.TRef.of Cert.ReferenceIdeal.main_cst_16 : StableHlo.TRef Cert.ReferenceIdeal.sig ⟨Cert.ReferenceIdeal.S_, .f32⟩).ofBuf x = x := rfl
theorem at_main_cst_17 (x : (⟨Cert.ReferenceIdeal.S_, .f32⟩ : BufTy).Contents (Elt Ideal)) :
    (StableHlo.TRef.of Cert.ReferenceIdeal.main_cst_17 : StableHlo.TRef Cert.ReferenceIdeal.sig ⟨Cert.ReferenceIdeal.S_, .f32⟩).ofBuf x = x := rfl
theorem at_main_v16 (x : (⟨Cert.ReferenceIdeal.S6x256x320, .f32⟩ : BufTy).Contents (Elt Ideal)) :
    (StableHlo.TRef.of Cert.ReferenceIdeal.main_v16 : StableHlo.TRef Cert.ReferenceIdeal.sig ⟨Cert.ReferenceIdeal.S6x256x320, .f32⟩).toBuf x = x := rfl
theorem at_main_v23 (x : (⟨Cert.ReferenceIdeal.S6x256x320x32, .f32⟩ : BufTy).Contents (Elt Ideal)) :
    (StableHlo.TRef.of Cert.ReferenceIdeal.main_v23 : StableHlo.TRef Cert.ReferenceIdeal.sig ⟨Cert.ReferenceIdeal.S6x256x320x32, .f32⟩).toBuf x = x := rfl
theorem at_main_v48 (x : (⟨Cert.ReferenceIdeal.S2560x320, .f32⟩ : BufTy).Contents (Elt Ideal)) :
    (StableHlo.TRef.of Cert.ReferenceIdeal.main_v48 : StableHlo.TRef Cert.ReferenceIdeal.sig ⟨Cert.ReferenceIdeal.S2560x320, .f32⟩).toBuf x = x := rfl
theorem at_main_v55 (x : (⟨Cert.ReferenceIdeal.S2560x320x32, .f32⟩ : BufTy).Contents (Elt Ideal)) :
    (StableHlo.TRef.of Cert.ReferenceIdeal.main_v55 : StableHlo.TRef Cert.ReferenceIdeal.sig ⟨Cert.ReferenceIdeal.S2560x320x32, .f32⟩).toBuf x = x := rfl
end

/-- Over the reals the kernel's two results are the reference's: the product of the quantised gradient with the quantised weight, and the
    norm's backward pass of that product. -/
theorem algebraic : letI := Cert.KernelIdeal.Gen.facts; letI := Cert.ReferenceIdeal.Gen.facts; Cert.algebraic_KernelIdeal_ReferenceIdeal := by
  letI := Cert.KernelIdeal.Gen.facts
  letI := Cert.ReferenceIdeal.Gen.facts
  intro m g m' g' hpre hagree
  refine ⟨fun c => dhOut m c, fun c => dxOut m c, ?_, ?_⟩
  · exact (θ_run (Cert.KernelIdeal.defs (F := Ideal)) _ _).mono (fun r h c => ⟨(h.1 c).1.1, (h.1 c).1.2, (h.1 c).2⟩)
      (Cert.KernelIdeal.Hand.run_all (F := Ideal) m g)
  · hlo_run
    · simp only [StableHlo.TRef.ofBuf_toBuf, at_main_v15, at_main_cst_4, at_main_v13, at_main_v22, at_main_cst_6, at_main_cst_7, at_main_v47, at_main_cst_14, at_main_v45, at_main_v54, at_main_cst_16, at_main_cst_17, at_main_v16, at_main_v23, at_main_v48, at_main_v55, id]
      funext i
      obtain ⟨a, b, rfl⟩ : ∃ (a : Fin 1536) (b : Fin 2560), i = ix2 a b := ⟨i 0, i 1, (ix2_eta i).symm⟩
      refine (rows_apply (refDh (refDx (refDyQ (refDyE (refDyA (m (c.tc.loc Cert.KernelIdeal.main_arg0)))) (m (c.tc.loc Cert.KernelIdeal.main_arg0)))
        (refWQ (refWE (refWA (m (c.tc.loc Cert.KernelIdeal.main_arg1)))) (m (c.tc.loc Cert.KernelIdeal.main_arg1))))
        (m (c.tc.loc Cert.KernelIdeal.main_arg2)) (m (c.tc.loc Cert.KernelIdeal.main_arg3))) a b).trans ?_
      rw [refDh_apply]
      simp only [refDx_apply, refDyM_apply, refWM_apply]
      exact (dhOut_apply m c _ _ _ _ rfl rfl rfl rfl a b).symm
    · simp only [StableHlo.TRef.ofBuf_toBuf, at_main_v15, at_main_cst_4, at_main_v13, at_main_v22, at_main_cst_6, at_main_cst_7, at_main_v47, at_main_cst_14, at_main_v45, at_main_v54, at_main_cst_16, at_main_cst_17, at_main_v16, at_main_v23, at_main_v48, at_main_v55, id]
      funext i
      obtain ⟨a, b, rfl⟩ : ∃ (a : Fin 1536) (b : Fin 2560), i = ix2 a b := ⟨i 0, i 1, (ix2_eta i).symm⟩
      refine (rows_apply (truncf .bf16 (refDx (refDyQ (refDyE (refDyA (m (c.tc.loc Cert.KernelIdeal.main_arg0)))) (m (c.tc.loc Cert.KernelIdeal.main_arg0)))
        (refWQ (refWE (refWA (m (c.tc.loc Cert.KernelIdeal.main_arg1)))) (m (c.tc.loc Cert.KernelIdeal.main_arg1)))) _) a b).trans ?_
      refine (refDx_apply _ _ _ _ _).trans ?_
      simp only [refDyM_apply, refWM_apply]
      exact (dxOut_apply m c _ _ rfl rfl a b).symm

end Cert.Proof

end
-- ==== Proof.lean ====
module

public import proofs.«01_k».proof.Defs
public import proofs.«01_k».proof.Proof.Frames
public import proofs.«01_k».proof.Proof.Pair

@[expose] public section

noncomputable section

namespace Cert.Proof

/-- Every claim of the certificate: the frames of the three programs, that no rewriting took place, and that the results agree. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
